-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "log_decay_0" .f32 0xBD020AEC#32 ((Real.log (31 / 32) : ℝ) : EReal)
  ∧ IdealRules.named_const.Statement Cert.KernelIdeal.κ "k_scale" .f32 0x3DB504F3#32 (((Real.sqrt 128)⁻¹ : ℝ) : EReal)
  ∧ IdealRules.named_const.Statement Cert.KernelIdeal.κ "chunk_decay_0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "log_decay_1" .f32 0xBC8102B3#32 ((Real.log (63 / 64) : ℝ) : EReal)
  ∧ IdealRules.named_const.Statement Cert.KernelIdeal.κ "chunk_decay_1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "log_decay_2" .f32 0xBC0080AC#32 ((Real.log (127 / 128) : ℝ) : EReal)
  ∧ IdealRules.named_const.Statement Cert.KernelIdeal.κ "chunk_decay_2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "log_decay_3" .f32 0xBB80402B#32 ((Real.log (255 / 256) : ℝ) : EReal)
  ∧ IdealRules.named_const.Statement Cert.KernelIdeal.κ "chunk_decay_3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  ∧ IdealRules.named_const.Statement Cert.KernelIdeal.κ "log_decay_4" .f32 0xBB00200B#32 ((Real.log (511 / 512) : ℝ) : EReal)
  ∧ IdealRules.named_const.Statement Cert.KernelIdeal.κ "chunk_decay_4" .f32 0x3F475303#32 ((47629411692907116618449907612943127113503058551675946475726046321068673767448309433604978842042244727950808621043443846226460652335771338586632158945163132521668959777554552621550652820578661694876446670852176498616800683992861587538664151446101098738528916217395117383283261069385353239390029990732456890130741979784965471495112669402908501934081 / 61172327492847069472032393719205726809135813743440799050195397570919697796091958321786863938157971792315844506873509046544459008355036150650333616890210625686064472971480622053109783197015954399612052812141827922088117778074833698589048132156300022844899841969874763871624802603515651998113045708569927237462546233168834543264678118409417047146496 : ℝ) : EReal)
  ∧ IdealRules.named_const.Statement Cert.KernelIdeal.κ "log_decay_5" .f32 0xBA801003#32 ((Real.log (1023 / 1024) : ℝ) : EReal)
  ∧ IdealRules.named_const.Statement Cert.KernelIdeal.κ "chunk_decay_5" .f32 0x3F61E7C9#32 ((18368813940068701121309471031748546166409385177907889681567909204907843101356355113621789948457578423950951357861201635378353901841502083551214518705094576000801881609357528370927695345999771540811130220701806311437704123410191713207648461265752321556704891384575009631286846774765075276410443802620990291581417820693201927792904733968311586634391883874777008525219926635061949132308481 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "log_decay_6" .f32 0xBA000801#32 ((Real.log (2047 / 2048) : ℝ) : EReal)
  ∧ IdealRules.named_const.Statement Cert.KernelIdeal.κ "chunk_decay_6" .f32 0x3F707C6F#32 ((6654016306095794578375805711706083627451106248621586707412028597044408595312882379735073979112908018757447922758800571158845448981108241366532934936903543922134307313033151462922936471521739184867036790102713388902849653985362444399390130211558444266640229528797001241261265790623485036884367437026101609929603420057467875778203261521955819753306746817495538758501232080385332001279585751237624806311955763606715255754588161 / 7083271603906078757501937199839970337237042072752024044272935252133021449487672037753077279976540494138725768234495819230178699615482523444525217326451885295083794903354995236859949814158861106339793498427520403285563504697437506153794873484561573759163876734171825622767620957924878367969185009358384129424236514293956457858505582263102570156257796764049361854053114869322098725721757629614488965634874516982012228724064256 : ℝ) : EReal)
  ∧ IdealRules.named_const.Statement Cert.KernelIdeal.κ "log_decay_7" .f32 0xB9800400#32 ((Real.log (4095 / 4096) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v18_11) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x1024 : Shape := ⟨3, ![8, 2048, 1024]⟩
abbrev S2048x64 : Shape := ⟨2, ![2048, 64]⟩
abbrev S8x128x128 : Shape := ⟨3, ![8, 128, 128]⟩
abbrev S16x1024 : Shape := ⟨2, ![16, 1024]⟩
abbrev S1x1024 : Shape := ⟨2, ![1, 1024]⟩
abbrev S512x6144 : Shape := ⟨2, ![512, 6144]⟩
abbrev S512x1024 : Shape := ⟨2, ![512, 1024]⟩
abbrev S1024x1024 : Shape := ⟨2, ![1024, 1024]⟩
abbrev S32x8x3072 : Shape := ⟨3, ![32, 8, 3072]⟩
abbrev S128x8x128x128 : Shape := ⟨4, ![128, 8, 128, 128]⟩
abbrev S2048x128 : Shape := ⟨2, ![2048, 128]⟩
abbrev S8x8x128x128 : Shape := ⟨4, ![8, 8, 128, 128]⟩
abbrev S8x15x1024 : Shape := ⟨3, ![8, 15, 1024]⟩
abbrev S32x8x1024 : Shape := ⟨3, ![32, 8, 1024]⟩
abbrev S4x128x1024 : Shape := ⟨3, ![4, 128, 1024]⟩
abbrev S128x128 : Shape := ⟨2, ![128, 128]⟩
abbrev S1x8x3072 : Shape := ⟨3, ![1, 8, 3072]⟩
abbrev S4x8x128x128 : Shape := ⟨4, ![4, 8, 128, 128]⟩
abbrev S4x15x1024 : Shape := ⟨3, ![4, 15, 1024]⟩
abbrev S1x8x1024 : Shape := ⟨3, ![1, 8, 1024]⟩
abbrev S4x16x1024 : Shape := ⟨3, ![4, 16, 1024]⟩
abbrev S1x8x128x128 : Shape := ⟨4, ![1, 8, 128, 128]⟩
abbrev S1x16x1024 : Shape := ⟨3, ![1, 16, 1024]⟩
abbrev S512 : Shape := ⟨1, ![512]⟩
abbrev S512x1 : Shape := ⟨2, ![512, 1]⟩
abbrev S8x512 : Shape := ⟨2, ![8, 512]⟩
abbrev S1x8x128 : Shape := ⟨3, ![1, 8, 128]⟩
abbrev S8x128 : Shape := ⟨2, ![8, 128]⟩
abbrev S128x8 : Shape := ⟨2, ![128, 8]⟩
abbrev S4x1x128x128 : Shape := ⟨4, ![4, 1, 128, 128]⟩
abbrev S4x128x128 : Shape := ⟨3, ![4, 128, 128]⟩
abbrev S512x128 : Shape := ⟨2, ![512, 128]⟩
abbrev S1x128x128 : Shape := ⟨3, ![1, 128, 128]⟩
abbrev S128x1 : Shape := ⟨2, ![128, 1]⟩
abbrev S1x128 : Shape := ⟨2, ![1, 128]⟩
abbrev S1x1x128x128 : Shape := ⟨4, ![1, 1, 128, 128]⟩
abbrev S512x256 : Shape := ⟨2, ![512, 256]⟩
abbrev S1024x256 : Shape := ⟨2, ![1024, 256]⟩
abbrev S128x256 : Shape := ⟨2, ![128, 256]⟩
abbrev S1x16x256 : Shape := ⟨3, ![1, 16, 256]⟩
abbrev S16x256 : Shape := ⟨2, ![16, 256]⟩
abbrev S144x256 : Shape := ⟨2, ![144, 256]⟩
abbrev S1x256 : Shape := ⟨2, ![1, 256]⟩
abbrev S128 : Shape := ⟨1, ![128]⟩
abbrev S128x1024 : Shape := ⟨2, ![128, 1024]⟩
abbrev S256x1024 : Shape := ⟨2, ![256, 1024]⟩
abbrev S256 : Shape := ⟨1, ![256]⟩
abbrev S256x1 : Shape := ⟨2, ![256, 1]⟩
abbrev S2x128x1024 : Shape := ⟨3, ![2, 128, 1024]⟩
abbrev S64x1024 : Shape := ⟨2, ![64, 1024]⟩
abbrev S15x1024 : Shape := ⟨2, ![15, 1024]⟩
abbrev S1x15x1024 : Shape := ⟨3, ![1, 15, 1024]⟩

abbrev nBuf : Space → Nat
  | .hbm => 22
  | .vmem => 30
  | .smem => 0
  | _ => 0

abbrev bufTy : (tb : Table) → Fin (tcTables nBuf tb) → BufTy
  | .hbm, ⟨0, _⟩ => ⟨S8x2048x1024, .f32⟩
  | .hbm, ⟨1, _⟩ => ⟨S2048x64, .f32⟩
  | .hbm, ⟨2, _⟩ => ⟨S2048x64, .f32⟩
  | .hbm, ⟨3, _⟩ => ⟨S8x128x128, .f32⟩
  | .hbm, ⟨4, _⟩ => ⟨S16x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S512x6144, .i32⟩
  | .hbm, ⟨10, _⟩ => ⟨S512x1024, .i32⟩
  | .hbm, ⟨11, _⟩ => ⟨S1024x1024, .i32⟩
  | .hbm, ⟨12, _⟩ => ⟨S32x8x3072, .f32⟩
  | .hbm, ⟨13, _⟩ => ⟨S128x8x128x128, .f32⟩
  | .hbm, ⟨14, _⟩ => ⟨S2048x128, .f32⟩
  | .hbm, ⟨15, _⟩ => ⟨S2048x64, .f32⟩
  | .hbm, ⟨16, _⟩ => ⟨S2048x128, .f32⟩
  | .hbm, ⟨17, _⟩ => ⟨S8x2048x1024, .f32⟩
  | .hbm, ⟨18, _⟩ => ⟨S8x8x128x128, .f32⟩
  | .hbm, ⟨19, _⟩ => ⟨S8x15x1024, .f32⟩
  | .hbm, ⟨20, _⟩ => ⟨S128x8x128x128, .f32⟩
  | .hbm, ⟨21, _⟩ => ⟨S32x8x1024, .f32⟩
  | .local _ .vmem, ⟨0, _⟩ => ⟨S4x128x1024, .f32⟩
  | .local _ .vmem, ⟨1, _⟩ => ⟨S4x128x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S8x128x128, .f32⟩
  | .local _ .vmem, ⟨7, _⟩ => ⟨S16x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x6144, .i32⟩
  | .local _ .vmem, ⟨13, _⟩ => ⟨S512x1024, .i32⟩
  | .local _ .vmem, ⟨14, _⟩ => ⟨S1024x1024, .i32⟩
  | .local _ .vmem, ⟨15, _⟩ => ⟨S1x8x3072, .f32⟩
  | .local _ .vmem, ⟨16, _⟩ => ⟨S1x8x3072, .f32⟩
  | .local _ .vmem, ⟨17, _⟩ => ⟨S4x8x128x128, .f32⟩
  | .local _ .vmem, ⟨18, _⟩ => ⟨S4x8x128x128, .f32⟩
  | .local _ .vmem, ⟨19, _⟩ => ⟨S4x128x1024, .f32⟩
  | .local _ .vmem, ⟨20, _⟩ => ⟨S4x128x1024, .f32⟩
  | .local _ .vmem, ⟨21, _⟩ => ⟨S4x8x128x128, .f32⟩
  | .local _ .vmem, ⟨22, _⟩ => ⟨S4x8x128x128, .f32⟩
  | .local _ .vmem, ⟨23, _⟩ => ⟨S4x15x1024, .f32⟩
  | .local _ .vmem, ⟨24, _⟩ => ⟨S4x15x1024, .f32⟩
  | .local _ .vmem, ⟨25, _⟩ => ⟨S4x8x128x128, .f32⟩
  | .local _ .vmem, ⟨26, _⟩ => ⟨S4x8x128x128, .f32⟩
  | .local _ .vmem, ⟨27, _⟩ => ⟨S1x8x1024, .f32⟩
  | .local _ .vmem, ⟨28, _⟩ => ⟨S1x8x1024, .f32⟩
  | .local _ .vmem, ⟨29, _⟩ => ⟨S4x16x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v3_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v3313 : BitVec 1 := Scalar.cmpi .eq arg1 c15_i32
  let v3314 : BitVec 32 := Scalar.extui v3313
  let c0_i32_1386 : BitVec 32 := 0#32
  let v3315 : BitVec 1 := Scalar.cmpi .ne v3314 c0_i32_1386
  v3315

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x6144 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x3072 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x8x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S4x128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S4x8x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S4x15x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S4x8x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== KernelIdeal.lean ====
variable {F : FTy → Type} [FloatOps F] [Named F]
def κ : String → Option EReal := fun
  | "chunk_decay_0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "chunk_decay_1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "chunk_decay_2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "chunk_decay_3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "chunk_decay_4" => some ((47629411692907116618449907612943127113503058551675946475726046321068673767448309433604978842042244727950808621043443846226460652335771338586632158945163132521668959777554552621550652820578661694876446670852176498616800683992861587538664151446101098738528916217395117383283261069385353239390029990732456890130741979784965471495112669402908501934081 / 61172327492847069472032393719205726809135813743440799050195397570919697796091958321786863938157971792315844506873509046544459008355036150650333616890210625686064472971480622053109783197015954399612052812141827922088117778074833698589048132156300022844899841969874763871624802603515651998113045708569927237462546233168834543264678118409417047146496 : ℝ) : EReal)
  | "chunk_decay_5" => some ((18368813940068701121309471031748546166409385177907889681567909204907843101356355113621789948457578423950951357861201635378353901841502083551214518705094576000801881609357528370927695345999771540811130220701806311437704123410191713207648461265752321556704891384575009631286846774765075276410443802620990291581417820693201927792904733968311586634391883874777008525219926635061949132308481 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "chunk_decay_6" => some ((6654016306095794578375805711706083627451106248621586707412028597044408595312882379735073979112908018757447922758800571158845448981108241366532934936903543922134307313033151462922936471521739184867036790102713388902849653985362444399390130211558444266640229528797001241261265790623485036884367437026101609929603420057467875778203261521955819753306746817495538758501232080385332001279585751237624806311955763606715255754588161 / 7083271603906078757501937199839970337237042072752024044272935252133021449487672037753077279976540494138725768234495819230178699615482523444525217326451885295083794903354995236859949814158861106339793498427520403285563504697437506153794873484561573759163876734171825622767620957924878367969185009358384129424236514293956457858505582263102570156257796764049361854053114869322098725721757629614488965634874516982012228724064256 : ℝ) : EReal)
  | "k_scale" => some (((Real.sqrt 128)⁻¹ : ℝ) : EReal)
  | "log_decay_0" => some ((Real.log (31 / 32) : ℝ) : EReal)
  | "log_decay_1" => some ((Real.log (63 / 64) : ℝ) : EReal)
  | "log_decay_2" => some ((Real.log (127 / 128) : ℝ) : EReal)
  | "log_decay_3" => some ((Real.log (255 / 256) : ℝ) : EReal)
  | "log_decay_4" => some ((Real.log (511 / 512) : ℝ) : EReal)
  | "log_decay_5" => some ((Real.log (1023 / 1024) : ℝ) : EReal)
  | "log_decay_6" => some ((Real.log (2047 / 2048) : ℝ) : EReal)
  | "log_decay_7" => some ((Real.log (4095 / 4096) : ℝ) : EReal)
  | _ => none
-- ==== ReferenceIdeal.lean ====
abbrev S8x2048x1024 : Shape := ⟨3, ![8, 2048, 1024]⟩
abbrev S2048x64 : Shape := ⟨2, ![2048, 64]⟩
abbrev S8x128x128 : Shape := ⟨3, ![8, 128, 128]⟩
abbrev S16x1024 : Shape := ⟨2, ![16, 1024]⟩
abbrev S1x1024 : Shape := ⟨2, ![1, 1024]⟩
abbrev S512x6144 : Shape := ⟨2, ![512, 6144]⟩
abbrev S512x1024 : Shape := ⟨2, ![512, 1024]⟩
abbrev S1024x1024 : Shape := ⟨2, ![1024, 1024]⟩
abbrev S32x8x3072 : Shape := ⟨3, ![32, 8, 3072]⟩
abbrev S128x8x128x128 : Shape := ⟨4, ![128, 8, 128, 128]⟩
abbrev S8 : Shape := ⟨1, ![8]⟩
abbrev S512x6144x2 : Shape := ⟨3, ![512, 6144, 2]⟩
abbrev S512x2x6144 : Shape := ⟨3, ![512, 2, 6144]⟩
abbrev S1024x6144 : Shape := ⟨2, ![1024, 6144]⟩
abbrev S1024x1024x2 : Shape := ⟨3, ![1024, 1024, 2]⟩
abbrev S1024x2x1024 : Shape := ⟨3, ![1024, 2, 1024]⟩
abbrev S2048x1024 : Shape := ⟨2, ![2048, 1024]⟩
abbrev S8x16x128x1024 : Shape := ⟨4, ![8, 16, 128, 1024]⟩
abbrev S16x8x128x1024 : Shape := ⟨4, ![16, 8, 128, 1024]⟩
abbrev S16x128x64 : Shape := ⟨3, ![16, 128, 64]⟩
abbrev S1x8x128x128 : Shape := ⟨4, ![1, 8, 128, 128]⟩
abbrev S8x8x128x128 : Shape := ⟨4, ![8, 8, 128, 128]⟩
abbrev S1x16x1024 : Shape := ⟨3, ![1, 16, 1024]⟩
abbrev S8x16x1024 : Shape := ⟨3, ![8, 16, 1024]⟩
abbrev S_ : Shape := ⟨0, ![]⟩
abbrev S1x8x128x1024 : Shape := ⟨4, ![1, 8, 128, 1024]⟩
abbrev S8x128x1024 : Shape := ⟨3, ![8, 128, 1024]⟩
abbrev S1x128x64 : Shape := ⟨3, ![1, 128, 64]⟩
abbrev S128x64 : Shape := ⟨2, ![128, 64]⟩
abbrev S8x128 : Shape := ⟨2, ![8, 128]⟩
abbrev S8x128x1 : Shape := ⟨3, ![8, 128, 1]⟩
abbrev S1x1x1024 : Shape := ⟨3, ![1, 1, 1024]⟩
abbrev S8x128x6144 : Shape := ⟨3, ![8, 128, 6144]⟩
abbrev S8x144x1024 : Shape := ⟨3, ![8, 144, 1024]⟩
abbrev S8x128x256 : Shape := ⟨3, ![8, 128, 256]⟩
abbrev S8x128x8x128 : Shape := ⟨4, ![8, 128, 8, 128]⟩
abbrev S8x8x128x64 : Shape := ⟨4, ![8, 8, 128, 64]⟩
abbrev S1x1x128x64 : Shape := ⟨4, ![1, 1, 128, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x1 : Shape := ⟨2, ![8, 1]⟩
abbrev S1x8x128x1 : Shape := ⟨4, ![1, 8, 128, 1]⟩
abbrev S1x8x1x1 : Shape := ⟨4, ![1, 8, 1, 1]⟩
abbrev S8x8x128 : Shape := ⟨3, ![8, 8, 128]⟩
abbrev S8x8x128x1 : Shape := ⟨4, ![8, 8, 128, 1]⟩
abbrev S8x128x2048 : Shape := ⟨3, ![8, 128, 2048]⟩
abbrev S8x2048 : Shape := ⟨2, ![8, 2048]⟩
abbrev S8x2048x1 : Shape := ⟨3, ![8, 2048, 1]⟩
abbrev S8x15x1024 : Shape := ⟨3, ![8, 15, 1024]⟩
abbrev S512x1024x2 : Shape := ⟨3, ![512, 1024, 2]⟩
abbrev S512x2x1024 : Shape := ⟨3, ![512, 2, 1024]⟩
abbrev S1 : Shape := ⟨1, ![1]⟩
abbrev S32x4x1024 : Shape := ⟨3, ![32, 4, 1024]⟩
abbrev S128x8x128 : Shape := ⟨3, ![128, 8, 128]⟩
abbrev S128x8x128x1 : Shape := ⟨4, ![128, 8, 128, 1]⟩
abbrev S128x8x1x128 : Shape := ⟨4, ![128, 8, 1, 128]⟩

abbrev nBuf : Space → Nat
  | .hbm => 395
  | .vmem => 0
  | .smem => 0
  | _ => 0

abbrev hbmTy0_0 (i : Nat) : BufTy := match i % 128 with
  | 0 => ⟨S8x2048x1024, .f32⟩
  | 1 => ⟨S2048x64, .f32⟩
  | 2 => ⟨S2048x64, .f32⟩
  | 3 => ⟨S8x128x128, .f32⟩
  | 4 => ⟨S16x1024, .f32⟩
  | 5 => ⟨S1x1024, .f32⟩
  | 6 => ⟨S1x1024, .f32⟩
  | 7 => ⟨S1x1024, .f32⟩
  | 8 => ⟨S1x1024, .f32⟩
  | 9 => ⟨S512x6144, .i32⟩
  | 10 => ⟨S512x1024, .i32⟩
  | 11 => ⟨S1024x1024, .i32⟩
  | 12 => ⟨S32x8x3072, .f32⟩
  | 13 => ⟨S128x8x128x128, .f32⟩
  | 14 => ⟨S8, .f32⟩
  | 15 => ⟨S8, .f32⟩
  | 16 => ⟨S512x6144x2, .bf16⟩
  | 17 => ⟨S512x2x6144, .bf16⟩
  | 18 => ⟨S1024x6144, .bf16⟩
  | 19 => ⟨S1024x6144, .f32⟩
  | 20 => ⟨S1024x1024x2, .bf16⟩
  | 21 => ⟨S1024x2x1024, .bf16⟩
  | 22 => ⟨S2048x1024, .bf16⟩
  | 23 => ⟨S2048x1024, .f32⟩
  | 24 => ⟨S8x16x128x1024, .f32⟩
  | 25 => ⟨S16x8x128x1024, .f32⟩
  | 26 => ⟨S16x128x64, .f32⟩
  | 27 => ⟨S16x128x64, .f32⟩
  | 28 => ⟨S1x8x128x128, .f32⟩
  | 29 => ⟨S8x8x128x128, .f32⟩
  | 30 => ⟨S1x16x1024, .f32⟩
  | 31 => ⟨S8x16x1024, .f32⟩
  | 32 => ⟨S_, .f32⟩
  | 33 => ⟨S16x8x128x1024, .f32⟩
  | 34 => ⟨S_, .i32⟩
  | 35 => ⟨S16x8x128x1024, .f32⟩
  | 36 => ⟨S16x128x64, .f32⟩
  | 37 => ⟨S16x128x64, .f32⟩
  | 38 => ⟨S1x1024, .f32⟩
  | 39 => ⟨S1024x6144, .f32⟩
  | 40 => ⟨S1x1024, .f32⟩
  | 41 => ⟨S8, .f32⟩
  | 42 => ⟨S1x1024, .f32⟩
  | 43 => ⟨S2048x1024, .f32⟩
  | 44 => ⟨S1x1024, .f32⟩
  | 45 => ⟨S_, .i32⟩
  | 46 => ⟨S8x8x128x128, .f32⟩
  | 47 => ⟨S8x16x1024, .f32⟩
  | 48 => ⟨S16x8x128x1024, .f32⟩
  | 49 => ⟨S_, .i32⟩
  | 50 => ⟨S_, .i1⟩
  | 51 => ⟨S_, .i32⟩
  | 52 => ⟨S_, .i32⟩
  | 53 => ⟨S_, .i32⟩
  | 54 => ⟨S1x8x128x1024, .f32⟩
  | 55 => ⟨S8x128x1024, .f32⟩
  | 56 => ⟨S_, .i32⟩
  | 57 => ⟨S_, .i32⟩
  | 58 => ⟨S1x128x64, .f32⟩
  | 59 => ⟨S128x64, .f32⟩
  | 60 => ⟨S_, .i32⟩
  | 61 => ⟨S_, .i32⟩
  | 62 => ⟨S1x128x64, .f32⟩
  | 63 => ⟨S128x64, .f32⟩
  | 64 => ⟨S8x128x1024, .f32⟩
  | 65 => ⟨S_, .f32⟩
  | 66 => ⟨S8x128, .f32⟩
  | 67 => ⟨S8x128x1, .f32⟩
  | 68 => ⟨S_, .f32⟩
  | 69 => ⟨S8x128x1, .f32⟩
  | 70 => ⟨S8x128x1, .f32⟩
  | 71 => ⟨S_, .f32⟩
  | 72 => ⟨S8x128x1, .f32⟩
  | 73 => ⟨S8x128x1, .f32⟩
  | 74 => ⟨S8x128x1, .f32⟩
  | 75 => ⟨S8x128x1024, .f32⟩
  | 76 => ⟨S8x128x1024, .f32⟩
  | 77 => ⟨S1x1x1024, .f32⟩
  | 78 => ⟨S8x128x1024, .f32⟩
  | 79 => ⟨S8x128x1024, .f32⟩
  | 80 => ⟨S8x128x6144, .f32⟩
  | 81 => ⟨S8x128x1024, .f32⟩
  | 82 => ⟨S8x128x1024, .f32⟩
  | 83 => ⟨S8x128x1024, .f32⟩
  | 84 => ⟨S8x128x1024, .f32⟩
  | 85 => ⟨S8x128x1024, .f32⟩
  | 86 => ⟨S8x128x1024, .f32⟩
  | 87 => ⟨S8x144x1024, .f32⟩
  | 88 => ⟨S8x128x256, .f32⟩
  | 89 => ⟨S8x128x256, .f32⟩
  | 90 => ⟨S8x128x256, .f32⟩
  | 91 => ⟨S_, .f32⟩
  | 92 => ⟨S8x128x256, .f32⟩
  | 93 => ⟨S8x128x256, .f32⟩
  | 94 => ⟨S8x128x256, .f32⟩
  | 95 => ⟨S8x128x256, .f32⟩
  | 96 => ⟨S8x128x256, .f32⟩
  | 97 => ⟨S8x128x256, .f32⟩
  | 98 => ⟨S8x128x256, .f32⟩
  | 99 => ⟨S8x128x256, .f32⟩
  | 100 => ⟨S8x128x256, .f32⟩
  | 101 => ⟨S8x128x256, .f32⟩
  | 102 => ⟨S8x128x256, .f32⟩
  | 103 => ⟨S_, .f32⟩
  | 104 => ⟨S8x128x256, .f32⟩
  | 105 => ⟨S8x128x256, .f32⟩
  | 106 => ⟨S8x128x256, .f32⟩
  | 107 => ⟨S8x128x256, .f32⟩
  | 108 => ⟨S8x128x256, .f32⟩
  | 109 => ⟨S8x128x256, .f32⟩
  | 110 => ⟨S8x128x256, .f32⟩
  | 111 => ⟨S8x128x256, .f32⟩
  | 112 => ⟨S8x128x256, .f32⟩
  | 113 => ⟨S8x128x256, .f32⟩
  | 114 => ⟨S8x128x256, .f32⟩
  | 115 => ⟨S8x128x256, .f32⟩
  | 116 => ⟨S8x128x256, .f32⟩
  | 117 => ⟨S8x128x256, .f32⟩
  | 118 => ⟨S8x128x256, .f32⟩
  | 119 => ⟨S8x128x256, .f32⟩
  | 120 => ⟨S8x128x256, .f32⟩
  | 121 => ⟨S8x128x256, .f32⟩
  | 122 => ⟨S8x128x256, .f32⟩
  | 123 => ⟨S_, .f32⟩
  | 124 => ⟨S8x128x256, .f32⟩
  | 125 => ⟨S8x128x256, .f32⟩
  | 126 => ⟨S8x128x256, .f32⟩
  | 127 => ⟨S8x128x256, .f32⟩
  | _ => ⟨S8x2048x1024, .f32⟩

abbrev hbmTy0_1 (i : Nat) : BufTy := match i % 128 with
  | 0 => ⟨S8x128x256, .f32⟩
  | 1 => ⟨S8x128x256, .f32⟩
  | 2 => ⟨S8x128x256, .f32⟩
  | 3 => ⟨S8x128x256, .f32⟩
  | 4 => ⟨S8x128x256, .f32⟩
  | 5 => ⟨S8x128x256, .f32⟩
  | 6 => ⟨S8x128x256, .f32⟩
  | 7 => ⟨S8x128x256, .f32⟩
  | 8 => ⟨S8x128x256, .f32⟩
  | 9 => ⟨S8x128x256, .f32⟩
  | 10 => ⟨S8x128x256, .f32⟩
  | 11 => ⟨S8x128x256, .f32⟩
  | 12 => ⟨S8x128x256, .f32⟩
  | 13 => ⟨S8x128x256, .f32⟩
  | 14 => ⟨S8x128x256, .f32⟩
  | 15 => ⟨S8x128x256, .f32⟩
  | 16 => ⟨S8x128x256, .f32⟩
  | 17 => ⟨S8x128x256, .f32⟩
  | 18 => ⟨S8x128x256, .f32⟩
  | 19 => ⟨S8x128x256, .f32⟩
  | 20 => ⟨S8x128x256, .f32⟩
  | 21 => ⟨S8x128x256, .f32⟩
  | 22 => ⟨S8x128x256, .f32⟩
  | 23 => ⟨S8x128x256, .f32⟩
  | 24 => ⟨S8x128x256, .f32⟩
  | 25 => ⟨S8x128x256, .f32⟩
  | 26 => ⟨S8x128x256, .f32⟩
  | 27 => ⟨S8x128x256, .f32⟩
  | 28 => ⟨S8x128x256, .f32⟩
  | 29 => ⟨S8x128x256, .f32⟩
  | 30 => ⟨S8x128x256, .f32⟩
  | 31 => ⟨S_, .f32⟩
  | 32 => ⟨S8x128x256, .f32⟩
  | 33 => ⟨S8x128x256, .f32⟩
  | 34 => ⟨S8x128x256, .f32⟩
  | 35 => ⟨S8x128x256, .f32⟩
  | 36 => ⟨S8x128x1024, .f32⟩
  | 37 => ⟨S1x1x1024, .f32⟩
  | 38 => ⟨S8x128x1024, .f32⟩
  | 39 => ⟨S8x128x1024, .f32⟩
  | 40 => ⟨S8x16x1024, .f32⟩
  | 41 => ⟨S8x128x8x128, .f32⟩
  | 42 => ⟨S8x8x128x128, .f32⟩
  | 43 => ⟨S8x8x128x64, .f32⟩
  | 44 => ⟨S8x8x128x64, .f32⟩
  | 45 => ⟨S1x1x128x64, .f32⟩
  | 46 => ⟨S8x8x128x64, .f32⟩
  | 47 => ⟨S8x8x128x64, .f32⟩
  | 48 => ⟨S1x1x128x64, .f32⟩
  | 49 => ⟨S8x8x128x64, .f32⟩
  | 50 => ⟨S8x8x128x64, .f32⟩
  | 51 => ⟨S8x8x128x64, .f32⟩
  | 52 => ⟨S1x1x128x64, .f32⟩
  | 53 => ⟨S8x8x128x64, .f32⟩
  | 54 => ⟨S8x8x128x64, .f32⟩
  | 55 => ⟨S1x1x128x64, .f32⟩
  | 56 => ⟨S8x8x128x64, .f32⟩
  | 57 => ⟨S8x8x128x64, .f32⟩
  | 58 => ⟨S8x8x128x64, .f32⟩
  | 59 => ⟨S8x8x128x128, .f32⟩
  | 60 => ⟨S8x128x8x128, .f32⟩
  | 61 => ⟨S8x8x128x128, .f32⟩
  | 62 => ⟨S8x8x128x64, .f32⟩
  | 63 => ⟨S8x8x128x64, .f32⟩
  | 64 => ⟨S1x1x128x64, .f32⟩
  | 65 => ⟨S8x8x128x64, .f32⟩
  | 66 => ⟨S8x8x128x64, .f32⟩
  | 67 => ⟨S1x1x128x64, .f32⟩
  | 68 => ⟨S8x8x128x64, .f32⟩
  | 69 => ⟨S8x8x128x64, .f32⟩
  | 70 => ⟨S8x8x128x64, .f32⟩
  | 71 => ⟨S1x1x128x64, .f32⟩
  | 72 => ⟨S8x8x128x64, .f32⟩
  | 73 => ⟨S8x8x128x64, .f32⟩
  | 74 => ⟨S1x1x128x64, .f32⟩
  | 75 => ⟨S8x8x128x64, .f32⟩
  | 76 => ⟨S8x8x128x64, .f32⟩
  | 77 => ⟨S8x8x128x64, .f32⟩
  | 78 => ⟨S8x8x128x128, .f32⟩
  | 79 => ⟨S_, .f32⟩
  | 80 => ⟨S_, .f32⟩
  | 81 => ⟨S8x8x128x128, .f32⟩
  | 82 => ⟨S8x8x128x128, .f32⟩
  | 83 => ⟨S8x128x8x128, .f32⟩
  | 84 => ⟨S8x8x128x128, .f32⟩
  | 85 => ⟨S128, .i32⟩
  | 86 => ⟨S128, .f32⟩
  | 87 => ⟨S128x1, .f32⟩
  | 88 => ⟨S1x128, .f32⟩
  | 89 => ⟨S128x128, .f32⟩
  | 90 => ⟨S128x128, .f32⟩
  | 91 => ⟨S128x128, .f32⟩
  | 92 => ⟨S_, .f32⟩
  | 93 => ⟨S128x128, .f32⟩
  | 94 => ⟨S128x128, .i1⟩
  | 95 => ⟨S8x1x1, .f32⟩
  | 96 => ⟨S_, .f32⟩
  | 97 => ⟨S128x128, .f32⟩
  | 98 => ⟨S128x128, .f32⟩
  | 99 => ⟨S1x128x128, .f32⟩
  | 100 => ⟨S8x128x128, .f32⟩
  | 101 => ⟨S8x128x128, .f32⟩
  | 102 => ⟨S8x128x128, .f32⟩
  | 103 => ⟨S8x128x128, .f32⟩
  | 104 => ⟨S_, .f32⟩
  | 105 => ⟨S_, .f32⟩
  | 106 => ⟨S8x128x128, .i1⟩
  | 107 => ⟨S8x128x128, .f32⟩
  | 108 => ⟨S8x128x128, .f32⟩
  | 109 => ⟨S8x8x128x128, .f32⟩
  | 110 => ⟨S1x8x128x128, .f32⟩
  | 111 => ⟨S8x8x128x128, .f32⟩
  | 112 => ⟨S8x8x128x128, .f32⟩
  | 113 => ⟨S8x8x128x128, .f32⟩
  | 114 => ⟨S8x1, .f32⟩
  | 115 => ⟨S1x128, .f32⟩
  | 116 => ⟨S_, .f32⟩
  | 117 => ⟨S1x128, .f32⟩
  | 118 => ⟨S1x128, .f32⟩
  | 119 => ⟨S8x128, .f32⟩
  | 120 => ⟨S8x128, .f32⟩
  | 121 => ⟨S8x128, .f32⟩
  | 122 => ⟨S8x128, .f32⟩
  | 123 => ⟨S1x8x128x1, .f32⟩
  | 124 => ⟨S8x8x128x128, .f32⟩
  | 125 => ⟨S8x8x128x128, .f32⟩
  | 126 => ⟨S8x8x128x128, .f32⟩
  | 127 => ⟨S8x1, .f32⟩
  | _ => ⟨S8x2048x1024, .f32⟩

abbrev hbmTy0_2 (i : Nat) : BufTy := match i % 128 with
  | 0 => ⟨S1x128, .f32⟩
  | 1 => ⟨S_, .f32⟩
  | 2 => ⟨S1x128, .f32⟩
  | 3 => ⟨S1x128, .f32⟩
  | 4 => ⟨S8x128, .f32⟩
  | 5 => ⟨S8x128, .f32⟩
  | 6 => ⟨S8x128, .f32⟩
  | 7 => ⟨S8x128, .f32⟩
  | 8 => ⟨S1x8x128x1, .f32⟩
  | 9 => ⟨S8x8x128x128, .f32⟩
  | 10 => ⟨S8x8x128x128, .f32⟩
  | 11 => ⟨S_, .f32⟩
  | 12 => ⟨S8, .f32⟩
  | 13 => ⟨S8, .f32⟩
  | 14 => ⟨S8, .f32⟩
  | 15 => ⟨S1x8x1x1, .f32⟩
  | 16 => ⟨S8x8x128x128, .f32⟩
  | 17 => ⟨S8x8x128x128, .f32⟩
  | 18 => ⟨S8x8x128x128, .f32⟩
  | 19 => ⟨S8x8x128x128, .f32⟩
  | 20 => ⟨S8x8x128x128, .f32⟩
  | 21 => ⟨S8x8x128x128, .f32⟩
  | 22 => ⟨S_, .f32⟩
  | 23 => ⟨S8x8x128, .f32⟩
  | 24 => ⟨S8x8x128x1, .f32⟩
  | 25 => ⟨S_, .f32⟩
  | 26 => ⟨S8x8x128x1, .f32⟩
  | 27 => ⟨S8x8x128x1, .f32⟩
  | 28 => ⟨S_, .f32⟩
  | 29 => ⟨S8x8x128x1, .f32⟩
  | 30 => ⟨S8x8x128x1, .f32⟩
  | 31 => ⟨S8x8x128x1, .f32⟩
  | 32 => ⟨S8x8x128x128, .f32⟩
  | 33 => ⟨S8x8x128x128, .f32⟩
  | 34 => ⟨S8x128x8x128, .f32⟩
  | 35 => ⟨S8x128x1024, .f32⟩
  | 36 => ⟨S1x1x1024, .f32⟩
  | 37 => ⟨S8x128x1024, .f32⟩
  | 38 => ⟨S8x128x1024, .f32⟩
  | 39 => ⟨S8x128x1024, .f32⟩
  | 40 => ⟨S8x128x1024, .f32⟩
  | 41 => ⟨S_, .f32⟩
  | 42 => ⟨S8x128x1024, .f32⟩
  | 43 => ⟨S8x128x1024, .f32⟩
  | 44 => ⟨S_, .f32⟩
  | 45 => ⟨S8x128x1024, .f32⟩
  | 46 => ⟨S8x128x1024, .f32⟩
  | 47 => ⟨S8x128x1024, .f32⟩
  | 48 => ⟨S8x128x1024, .f32⟩
  | 49 => ⟨S8x128x1024, .f32⟩
  | 50 => ⟨S8x128x1024, .f32⟩
  | 51 => ⟨S_, .f32⟩
  | 52 => ⟨S8x128x1024, .f32⟩
  | 53 => ⟨S8x128x1024, .f32⟩
  | 54 => ⟨S_, .f32⟩
  | 55 => ⟨S8x128x1024, .f32⟩
  | 56 => ⟨S8x128x1024, .f32⟩
  | 57 => ⟨S8x128x1024, .f32⟩
  | 58 => ⟨S8x128x1024, .f32⟩
  | 59 => ⟨S8x128x2048, .f32⟩
  | 60 => ⟨S8x128x1024, .f32⟩
  | 61 => ⟨S8x128x1024, .f32⟩
  | 62 => ⟨S8x128x1024, .f32⟩
  | 63 => ⟨S_, .f32⟩
  | 64 => ⟨S8x128, .f32⟩
  | 65 => ⟨S8x128x1, .f32⟩
  | 66 => ⟨S_, .f32⟩
  | 67 => ⟨S8x128x1, .f32⟩
  | 68 => ⟨S8x128x1, .f32⟩
  | 69 => ⟨S_, .f32⟩
  | 70 => ⟨S8x128x1, .f32⟩
  | 71 => ⟨S8x128x1, .f32⟩
  | 72 => ⟨S8x128x1, .f32⟩
  | 73 => ⟨S8x128x1024, .f32⟩
  | 74 => ⟨S8x128x1024, .f32⟩
  | 75 => ⟨S1x1x1024, .f32⟩
  | 76 => ⟨S8x128x1024, .f32⟩
  | 77 => ⟨S8x128x1024, .f32⟩
  | 78 => ⟨S1x8x128x1024, .f32⟩
  | 79 => ⟨S_, .i32⟩
  | 80 => ⟨S_, .i32⟩
  | 81 => ⟨S_, .i32⟩
  | 82 => ⟨S16x8x128x1024, .f32⟩
  | 83 => ⟨S_, .i32⟩
  | 84 => ⟨S_, .i32⟩
  | 85 => ⟨S8x16x128x1024, .f32⟩
  | 86 => ⟨S8x2048x1024, .f32⟩
  | 87 => ⟨S8x2048x1024, .f32⟩
  | 88 => ⟨S_, .f32⟩
  | 89 => ⟨S8x2048, .f32⟩
  | 90 => ⟨S8x2048x1, .f32⟩
  | 91 => ⟨S_, .f32⟩
  | 92 => ⟨S8x2048x1, .f32⟩
  | 93 => ⟨S8x2048x1, .f32⟩
  | 94 => ⟨S_, .f32⟩
  | 95 => ⟨S8x2048x1, .f32⟩
  | 96 => ⟨S8x2048x1, .f32⟩
  | 97 => ⟨S8x2048x1, .f32⟩
  | 98 => ⟨S8x2048x1024, .f32⟩
  | 99 => ⟨S8x2048x1024, .f32⟩
  | 100 => ⟨S1x1x1024, .f32⟩
  | 101 => ⟨S8x2048x1024, .f32⟩
  | 102 => ⟨S8x2048x1024, .f32⟩
  | 103 => ⟨S8x15x1024, .f32⟩
  | 104 => ⟨S512x1024x2, .bf16⟩
  | 105 => ⟨S512x2x1024, .bf16⟩
  | 106 => ⟨S1024x1024, .bf16⟩
  | 107 => ⟨S1024x1024, .f32⟩
  | 108 => ⟨S8x15x1024, .f32⟩
  | 109 => ⟨S_, .f32⟩
  | 110 => ⟨S1, .f32⟩
  | 111 => ⟨S_, .f32⟩
  | 112 => ⟨S1, .f32⟩
  | 113 => ⟨S_, .f32⟩
  | 114 => ⟨S1, .f32⟩
  | 115 => ⟨S_, .f32⟩
  | 116 => ⟨S1, .f32⟩
  | 117 => ⟨S_, .f32⟩
  | 118 => ⟨S1, .f32⟩
  | 119 => ⟨S_, .f32⟩
  | 120 => ⟨S1, .f32⟩
  | 121 => ⟨S_, .f32⟩
  | 122 => ⟨S1, .f32⟩
  | 123 => ⟨S_, .f32⟩
  | 124 => ⟨S1, .f32⟩
  | 125 => ⟨S8, .f32⟩
  | 126 => ⟨S32x4x1024, .f32⟩
  | 127 => ⟨S128x8x128, .f32⟩
  | _ => ⟨S8x2048x1024, .f32⟩

abbrev hbmTy0_3 (i : Nat) : BufTy := match i % 128 with
  | 0 => ⟨S32x4x1024, .f32⟩
  | 1 => ⟨S128x8x128, .f32⟩
  | 2 => ⟨S1x8x1x1, .f32⟩
  | 3 => ⟨S128x8x128x128, .f32⟩
  | 4 => ⟨S128x8x128x128, .f32⟩
  | 5 => ⟨S128x8x128x1, .f32⟩
  | 6 => ⟨S128x8x1x128, .f32⟩
  | 7 => ⟨S128x8x128x128, .f32⟩
  | 8 => ⟨S128x8x128x128, .f32⟩
  | 9 => ⟨S128x8x128x128, .f32⟩
  | 10 => ⟨S128x8x128x128, .f32⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_c : Ref sig .tc := ⟨.hbm, 34, rfl⟩
abbrev main_v18_0 : Ref sig .tc := ⟨.hbm, 35, rfl⟩
abbrev main_v18_1 : Ref sig .tc := ⟨.hbm, 36, rfl⟩
abbrev main_v18_2 : Ref sig .tc := ⟨.hbm, 37, rfl⟩
abbrev main_v18_3 : Ref sig .tc := ⟨.hbm, 38, rfl⟩
abbrev main_v18_4 : Ref sig .tc := ⟨.hbm, 39, rfl⟩
abbrev main_v18_5 : Ref sig .tc := ⟨.hbm, 40, rfl⟩
abbrev main_v18_6 : Ref sig .tc := ⟨.hbm, 41, rfl⟩
abbrev main_v18_7 : Ref sig .tc := ⟨.hbm, 42, rfl⟩
abbrev main_v18_8 : Ref sig .tc := ⟨.hbm, 43, rfl⟩
abbrev main_v18_9 : Ref sig .tc := ⟨.hbm, 44, rfl⟩
abbrev main_v18_10 : Ref sig .tc := ⟨.hbm, 45, rfl⟩
abbrev main_v18_11 : Ref sig .tc := ⟨.hbm, 46, rfl⟩
abbrev main_v18_12 : Ref sig .tc := ⟨.hbm, 47, rfl⟩
abbrev main_v18_13 : Ref sig .tc := ⟨.hbm, 48, rfl⟩
abbrev main_while0c_c_25 : Ref sig .tc := ⟨.hbm, 49, rfl⟩
abbrev main_while0c_v62 : Ref sig .tc := ⟨.hbm, 50, rfl⟩
abbrev main_while0b_call0_c : Ref sig .tc := ⟨.hbm, 51, rfl⟩
abbrev main_while0b_call0_c_0 : Ref sig .tc := ⟨.hbm, 52, rfl⟩
abbrev main_while0b_call0_c_1 : Ref sig .tc := ⟨.hbm, 53, rfl⟩
abbrev main_while0b_call0_v0 : Ref sig .tc := ⟨.hbm, 54, rfl⟩
abbrev main_while0b_v62 : Ref sig .tc := ⟨.hbm, 55, rfl⟩
abbrev main_while0b_call1_c : Ref sig .tc := ⟨.hbm, 56, rfl⟩
abbrev main_while0b_call1_c_0 : Ref sig .tc := ⟨.hbm, 57, rfl⟩
abbrev main_while0b_call1_v0 : Ref sig .tc := ⟨.hbm, 58, rfl⟩
abbrev main_while0b_v63 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_v0 : Ref sig .tc := ⟨.hbm, 62, rfl⟩
abbrev main_while0b_v64 : Ref sig .tc := ⟨.hbm, 63, rfl⟩
abbrev main_while0b_v65 : Ref sig .tc := ⟨.hbm, 64, rfl⟩
abbrev main_while0b_cst_25 : Ref sig .tc := ⟨.hbm, 65, rfl⟩
abbrev main_while0b_v66 : Ref sig .tc := ⟨.hbm, 66, rfl⟩
abbrev main_while0b_v67 : Ref sig .tc := ⟨.hbm, 67, rfl⟩
abbrev main_while0b_cst_26 : Ref sig .tc := ⟨.hbm, 68, rfl⟩
abbrev main_while0b_v68 : Ref sig .tc := ⟨.hbm, 69, rfl⟩
abbrev main_while0b_v69 : Ref sig .tc := ⟨.hbm, 70, rfl⟩
abbrev main_while0b_cst_27 : Ref sig .tc := ⟨.hbm, 71, rfl⟩
abbrev main_while0b_v70 : Ref sig .tc := ⟨.hbm, 72, rfl⟩
abbrev main_while0b_v71 : Ref sig .tc := ⟨.hbm, 73, rfl⟩
abbrev main_while0b_v72 : Ref sig .tc := ⟨.hbm, 74, rfl⟩
abbrev main_while0b_v73 : Ref sig .tc := ⟨.hbm, 75, rfl⟩
abbrev main_while0b_v74 : Ref sig .tc := ⟨.hbm, 76, rfl⟩
abbrev main_while0b_v75 : Ref sig .tc := ⟨.hbm, 77, rfl⟩
abbrev main_while0b_v76 : Ref sig .tc := ⟨.hbm, 78, rfl⟩
abbrev main_while0b_v77 : Ref sig .tc := ⟨.hbm, 79, rfl⟩
abbrev main_while0b_v78 : Ref sig .tc := ⟨.hbm, 80, rfl⟩
abbrev main_while0b_v79 : Ref sig .tc := ⟨.hbm, 81, rfl⟩
abbrev main_while0b_v80 : Ref sig .tc := ⟨.hbm, 82, rfl⟩
abbrev main_while0b_v81 : Ref sig .tc := ⟨.hbm, 83, rfl⟩
abbrev main_while0b_v82 : Ref sig .tc := ⟨.hbm, 84, rfl⟩
abbrev main_while0b_v83 : Ref sig .tc := ⟨.hbm, 85, rfl⟩
abbrev main_while0b_v84 : Ref sig .tc := ⟨.hbm, 86, rfl⟩
abbrev main_while0b_v85 : Ref sig .tc := ⟨.hbm, 87, rfl⟩
abbrev main_while0b_v86 : Ref sig .tc := ⟨.hbm, 88, rfl⟩
abbrev main_while0b_v87 : Ref sig .tc := ⟨.hbm, 89, rfl⟩
abbrev main_while0b_v88 : Ref sig .tc := ⟨.hbm, 90, rfl⟩
abbrev main_while0b_cst_28 : Ref sig .tc := ⟨.hbm, 91, rfl⟩
abbrev main_while0b_v89 : Ref sig .tc := ⟨.hbm, 92, rfl⟩
abbrev main_while0b_v90 : Ref sig .tc := ⟨.hbm, 93, rfl⟩
abbrev main_while0b_v91 : Ref sig .tc := ⟨.hbm, 94, rfl⟩
abbrev main_while0b_v92 : Ref sig .tc := ⟨.hbm, 95, rfl⟩
abbrev main_while0b_v93 : Ref sig .tc := ⟨.hbm, 96, rfl⟩
abbrev main_while0b_v94 : Ref sig .tc := ⟨.hbm, 97, rfl⟩
abbrev main_while0b_v95 : Ref sig .tc := ⟨.hbm, 98, rfl⟩
abbrev main_while0b_v96 : Ref sig .tc := ⟨.hbm, 99, rfl⟩
abbrev main_while0b_v97 : Ref sig .tc := ⟨.hbm, 100, rfl⟩
abbrev main_while0b_v98 : Ref sig .tc := ⟨.hbm, 101, rfl⟩
abbrev main_while0b_v99 : Ref sig .tc := ⟨.hbm, 102, rfl⟩
abbrev main_while0b_cst_29 : Ref sig .tc := ⟨.hbm, 103, rfl⟩
abbrev main_while0b_v100 : Ref sig .tc := ⟨.hbm, 104, rfl⟩
abbrev main_while0b_v101 : Ref sig .tc := ⟨.hbm, 105, rfl⟩
abbrev main_while0b_v102 : Ref sig .tc := ⟨.hbm, 106, rfl⟩
abbrev main_while0b_v103 : Ref sig .tc := ⟨.hbm, 107, rfl⟩
abbrev main_while0b_v104 : Ref sig .tc := ⟨.hbm, 108, rfl⟩
abbrev main_while0b_v105 : Ref sig .tc := ⟨.hbm, 109, rfl⟩
abbrev main_while0b_v106 : Ref sig .tc := ⟨.hbm, 110, rfl⟩
abbrev main_while0b_v107 : Ref sig .tc := ⟨.hbm, 111, rfl⟩
abbrev main_while0b_v108 : Ref sig .tc := ⟨.hbm, 112, rfl⟩
abbrev main_while0b_v109 : Ref sig .tc := ⟨.hbm, 113, rfl⟩
abbrev main_while0b_v110 : Ref sig .tc := ⟨.hbm, 114, rfl⟩
abbrev main_while0b_v111 : Ref sig .tc := ⟨.hbm, 115, rfl⟩
abbrev main_while0b_v112 : Ref sig .tc := ⟨.hbm, 116, rfl⟩
abbrev main_while0b_v113 : Ref sig .tc := ⟨.hbm, 117, rfl⟩
abbrev main_while0b_v114 : Ref sig .tc := ⟨.hbm, 118, rfl⟩
abbrev main_while0b_v115 : Ref sig .tc := ⟨.hbm, 119, rfl⟩
abbrev main_while0b_v116 : Ref sig .tc := ⟨.hbm, 120, rfl⟩
abbrev main_while0b_v117 : Ref sig .tc := ⟨.hbm, 121, rfl⟩
abbrev main_while0b_v118 : Ref sig .tc := ⟨.hbm, 122, rfl⟩
abbrev main_while0b_cst_30 : Ref sig .tc := ⟨.hbm, 123, rfl⟩
abbrev main_while0b_v119 : Ref sig .tc := ⟨.hbm, 124, rfl⟩
abbrev main_while0b_v120 : Ref sig .tc := ⟨.hbm, 125, rfl⟩
abbrev main_while0b_v121 : Ref sig .tc := ⟨.hbm, 126, rfl⟩
abbrev main_while0b_v122 : Ref sig .tc := ⟨.hbm, 127, rfl⟩
abbrev main_while0b_v123 : Ref sig .tc := ⟨.hbm, 128, rfl⟩
abbrev main_while0b_v124 : Ref sig .tc := ⟨.hbm, 129, rfl⟩
abbrev main_while0b_v125 : Ref sig .tc := ⟨.hbm, 130, rfl⟩
abbrev main_while0b_v126 : Ref sig .tc := ⟨.hbm, 131, rfl⟩
abbrev main_while0b_v127 : Ref sig .tc := ⟨.hbm, 132, rfl⟩
abbrev main_while0b_v128 : Ref sig .tc := ⟨.hbm, 133, rfl⟩
abbrev main_while0b_v129 : Ref sig .tc := ⟨.hbm, 134, rfl⟩
abbrev main_while0b_v130 : Ref sig .tc := ⟨.hbm, 135, rfl⟩
abbrev main_while0b_v131 : Ref sig .tc := ⟨.hbm, 136, rfl⟩
abbrev main_while0b_v132 : Ref sig .tc := ⟨.hbm, 137, rfl⟩
abbrev main_while0b_v133 : Ref sig .tc := ⟨.hbm, 138, rfl⟩
abbrev main_while0b_v134 : Ref sig .tc := ⟨.hbm, 139, rfl⟩
abbrev main_while0b_v135 : Ref sig .tc := ⟨.hbm, 140, rfl⟩
abbrev main_while0b_v136 : Ref sig .tc := ⟨.hbm, 141, rfl⟩
abbrev main_while0b_v137 : Ref sig .tc := ⟨.hbm, 142, rfl⟩
abbrev main_while0b_v138 : Ref sig .tc := ⟨.hbm, 143, rfl⟩
abbrev main_while0b_v139 : Ref sig .tc := ⟨.hbm, 144, rfl⟩
abbrev main_while0b_v140 : Ref sig .tc := ⟨.hbm, 145, rfl⟩
abbrev main_while0b_v141 : Ref sig .tc := ⟨.hbm, 146, rfl⟩
abbrev main_while0b_v142 : Ref sig .tc := ⟨.hbm, 147, rfl⟩
abbrev main_while0b_v143 : Ref sig .tc := ⟨.hbm, 148, rfl⟩
abbrev main_while0b_v144 : Ref sig .tc := ⟨.hbm, 149, rfl⟩
abbrev main_while0b_v145 : Ref sig .tc := ⟨.hbm, 150, rfl⟩
abbrev main_while0b_v146 : Ref sig .tc := ⟨.hbm, 151, rfl⟩
abbrev main_while0b_v147 : Ref sig .tc := ⟨.hbm, 152, rfl⟩
abbrev main_while0b_v148 : Ref sig .tc := ⟨.hbm, 153, rfl⟩
abbrev main_while0b_v149 : Ref sig .tc := ⟨.hbm, 154, rfl⟩
abbrev main_while0b_v150 : Ref sig .tc := ⟨.hbm, 155, rfl⟩
abbrev main_while0b_v151 : Ref sig .tc := ⟨.hbm, 156, rfl⟩
abbrev main_while0b_v152 : Ref sig .tc := ⟨.hbm, 157, rfl⟩
abbrev main_while0b_v153 : Ref sig .tc := ⟨.hbm, 158, rfl⟩
abbrev main_while0b_cst_31 : Ref sig .tc := ⟨.hbm, 159, rfl⟩
abbrev main_while0b_v154 : Ref sig .tc := ⟨.hbm, 160, rfl⟩
abbrev main_while0b_v155 : Ref sig .tc := ⟨.hbm, 161, rfl⟩
abbrev main_while0b_v156 : Ref sig .tc := ⟨.hbm, 162, rfl⟩
abbrev main_while0b_v157 : Ref sig .tc := ⟨.hbm, 163, rfl⟩
abbrev main_while0b_v158 : Ref sig .tc := ⟨.hbm, 164, rfl⟩
abbrev main_while0b_v159 : Ref sig .tc := ⟨.hbm, 165, rfl⟩
abbrev main_while0b_v160 : Ref sig .tc := ⟨.hbm, 166, rfl⟩
abbrev main_while0b_v161 : Ref sig .tc := ⟨.hbm, 167, rfl⟩
abbrev main_while0b_v162 : Ref sig .tc := ⟨.hbm, 168, rfl⟩
abbrev main_while0b_v163 : Ref sig .tc := ⟨.hbm, 169, rfl⟩
abbrev main_while0b_v164 : Ref sig .tc := ⟨.hbm, 170, rfl⟩
abbrev main_while0b_v165 : Ref sig .tc := ⟨.hbm, 171, rfl⟩
abbrev main_while0b_v166 : Ref sig .tc := ⟨.hbm, 172, rfl⟩
abbrev main_while0b_v167 : Ref sig .tc := ⟨.hbm, 173, rfl⟩
abbrev main_while0b_v168 : Ref sig .tc := ⟨.hbm, 174, rfl⟩
abbrev main_while0b_v169 : Ref sig .tc := ⟨.hbm, 175, rfl⟩
abbrev main_while0b_v170 : Ref sig .tc := ⟨.hbm, 176, rfl⟩
abbrev main_while0b_v171 : Ref sig .tc := ⟨.hbm, 177, rfl⟩
abbrev main_while0b_v172 : Ref sig .tc := ⟨.hbm, 178, rfl⟩
abbrev main_while0b_v173 : Ref sig .tc := ⟨.hbm, 179, rfl⟩
abbrev main_while0b_v174 : Ref sig .tc := ⟨.hbm, 180, rfl⟩
abbrev main_while0b_v175 : Ref sig .tc := ⟨.hbm, 181, rfl⟩
abbrev main_while0b_v176 : Ref sig .tc := ⟨.hbm, 182, rfl⟩
abbrev main_while0b_v177 : Ref sig .tc := ⟨.hbm, 183, rfl⟩
abbrev main_while0b_v178 : Ref sig .tc := ⟨.hbm, 184, rfl⟩
abbrev main_while0b_v179 : Ref sig .tc := ⟨.hbm, 185, rfl⟩
abbrev main_while0b_v180 : Ref sig .tc := ⟨.hbm, 186, rfl⟩
abbrev main_while0b_v181 : Ref sig .tc := ⟨.hbm, 187, rfl⟩
abbrev main_while0b_v182 : Ref sig .tc := ⟨.hbm, 188, rfl⟩
abbrev main_while0b_v183 : Ref sig .tc := ⟨.hbm, 189, rfl⟩
abbrev main_while0b_v184 : Ref sig .tc := ⟨.hbm, 190, rfl⟩
abbrev main_while0b_v185 : Ref sig .tc := ⟨.hbm, 191, rfl⟩
abbrev main_while0b_v186 : Ref sig .tc := ⟨.hbm, 192, rfl⟩
abbrev main_while0b_v187 : Ref sig .tc := ⟨.hbm, 193, rfl⟩
abbrev main_while0b_v188 : Ref sig .tc := ⟨.hbm, 194, rfl⟩
abbrev main_while0b_v189 : Ref sig .tc := ⟨.hbm, 195, rfl⟩
abbrev main_while0b_v190 : Ref sig .tc := ⟨.hbm, 196, rfl⟩
abbrev main_while0b_v191 : Ref sig .tc := ⟨.hbm, 197, rfl⟩
abbrev main_while0b_v192 : Ref sig .tc := ⟨.hbm, 198, rfl⟩
abbrev main_while0b_v193 : Ref sig .tc := ⟨.hbm, 199, rfl⟩
abbrev main_while0b_v194 : Ref sig .tc := ⟨.hbm, 200, rfl⟩
abbrev main_while0b_v195 : Ref sig .tc := ⟨.hbm, 201, rfl⟩
abbrev main_while0b_v196 : Ref sig .tc := ⟨.hbm, 202, rfl⟩
abbrev main_while0b_v197 : Ref sig .tc := ⟨.hbm, 203, rfl⟩
abbrev main_while0b_v198 : Ref sig .tc := ⟨.hbm, 204, rfl⟩
abbrev main_while0b_v199 : Ref sig .tc := ⟨.hbm, 205, rfl⟩
abbrev main_while0b_v200 : Ref sig .tc := ⟨.hbm, 206, rfl⟩
abbrev main_while0b_cst_32 : Ref sig .tc := ⟨.hbm, 207, rfl⟩
abbrev main_while0b_v201 : Ref sig .tc := ⟨.hbm, 208, rfl⟩
abbrev main_while0b_v202 : Ref sig .tc := ⟨.hbm, 209, rfl⟩
abbrev main_while0b_v203 : Ref sig .tc := ⟨.hbm, 210, rfl⟩
abbrev main_while0b_v204 : Ref sig .tc := ⟨.hbm, 211, rfl⟩
abbrev main_while0b_v205 : Ref sig .tc := ⟨.hbm, 212, rfl⟩
abbrev main_while0b_v206 : Ref sig .tc := ⟨.hbm, 213, rfl⟩
abbrev main_while0b_v207 : Ref sig .tc := ⟨.hbm, 214, rfl⟩
abbrev main_while0b_v208 : Ref sig .tc := ⟨.hbm, 215, rfl⟩
abbrev main_while0b_v209 : Ref sig .tc := ⟨.hbm, 216, rfl⟩
abbrev main_while0b_v210 : Ref sig .tc := ⟨.hbm, 217, rfl⟩
abbrev main_while0b_v211 : Ref sig .tc := ⟨.hbm, 218, rfl⟩
abbrev main_while0b_v212 : Ref sig .tc := ⟨.hbm, 219, rfl⟩
abbrev main_while0b_cst_33 : Ref sig .tc := ⟨.hbm, 220, rfl⟩
abbrev main_while0b_v213 : Ref sig .tc := ⟨.hbm, 221, rfl⟩
abbrev main_while0b_v214 : Ref sig .tc := ⟨.hbm, 222, rfl⟩
abbrev main_while0b_v215 : Ref sig .tc := ⟨.hbm, 223, rfl⟩
abbrev main_while0b_cst_34 : Ref sig .tc := ⟨.hbm, 224, rfl⟩
abbrev main_while0b_v216 : Ref sig .tc := ⟨.hbm, 225, rfl⟩
abbrev main_while0b_v217 : Ref sig .tc := ⟨.hbm, 226, rfl⟩
abbrev main_while0b_v218 : Ref sig .tc := ⟨.hbm, 227, rfl⟩
abbrev main_while0b_v219 : Ref sig .tc := ⟨.hbm, 228, rfl⟩
abbrev main_while0b_v220 : Ref sig .tc := ⟨.hbm, 229, rfl⟩
abbrev main_while0b_v221 : Ref sig .tc := ⟨.hbm, 230, rfl⟩
abbrev main_while0b_v222 : Ref sig .tc := ⟨.hbm, 231, rfl⟩
abbrev main_while0b_cst_35 : Ref sig .tc := ⟨.hbm, 232, rfl⟩
abbrev main_while0b_call3_v0 : Ref sig .tc := ⟨.hbm, 233, rfl⟩
abbrev main_while0b_call3_v1 : Ref sig .tc := ⟨.hbm, 234, rfl⟩
abbrev main_while0b_call3_v2 : Ref sig .tc := ⟨.hbm, 235, rfl⟩
abbrev main_while0b_v223 : Ref sig .tc := ⟨.hbm, 236, rfl⟩
abbrev main_while0b_v224 : Ref sig .tc := ⟨.hbm, 237, rfl⟩
abbrev main_while0b_v225 : Ref sig .tc := ⟨.hbm, 238, rfl⟩
abbrev main_while0b_v226 : Ref sig .tc := ⟨.hbm, 239, rfl⟩
abbrev main_while0b_v227 : Ref sig .tc := ⟨.hbm, 240, rfl⟩
abbrev main_while0b_v228 : Ref sig .tc := ⟨.hbm, 241, rfl⟩
abbrev main_while0b_v229 : Ref sig .tc := ⟨.hbm, 242, rfl⟩
abbrev main_while0b_v230 : Ref sig .tc := ⟨.hbm, 243, rfl⟩
abbrev main_while0b_cst_36 : Ref sig .tc := ⟨.hbm, 244, rfl⟩
abbrev main_while0b_v231 : Ref sig .tc := ⟨.hbm, 245, rfl⟩
abbrev main_while0b_v232 : Ref sig .tc := ⟨.hbm, 246, rfl⟩
abbrev main_while0b_v233 : Ref sig .tc := ⟨.hbm, 247, rfl⟩
abbrev main_while0b_v234 : Ref sig .tc := ⟨.hbm, 248, rfl⟩
abbrev main_while0b_v235 : Ref sig .tc := ⟨.hbm, 249, rfl⟩
abbrev main_while0b_v236 : Ref sig .tc := ⟨.hbm, 250, rfl⟩
abbrev main_while0b_v237 : Ref sig .tc := ⟨.hbm, 251, rfl⟩
abbrev main_while0b_v238 : Ref sig .tc := ⟨.hbm, 252, rfl⟩
abbrev main_while0b_v239 : Ref sig .tc := ⟨.hbm, 253, rfl⟩
abbrev main_while0b_v240 : Ref sig .tc := ⟨.hbm, 254, rfl⟩
abbrev main_while0b_v241 : Ref sig .tc := ⟨.hbm, 255, rfl⟩
abbrev main_while0b_v242 : Ref sig .tc := ⟨.hbm, 256, rfl⟩
abbrev main_while0b_cst_37 : Ref sig .tc := ⟨.hbm, 257, rfl⟩
abbrev main_while0b_v243 : Ref sig .tc := ⟨.hbm, 258, rfl⟩
abbrev main_while0b_v244 : Ref sig .tc := ⟨.hbm, 259, rfl⟩
abbrev main_while0b_v245 : Ref sig .tc := ⟨.hbm, 260, rfl⟩
abbrev main_while0b_v246 : Ref sig .tc := ⟨.hbm, 261, rfl⟩
abbrev main_while0b_v247 : Ref sig .tc := ⟨.hbm, 262, rfl⟩
abbrev main_while0b_v248 : Ref sig .tc := ⟨.hbm, 263, rfl⟩
abbrev main_while0b_v249 : Ref sig .tc := ⟨.hbm, 264, rfl⟩
abbrev main_while0b_v250 : Ref sig .tc := ⟨.hbm, 265, rfl⟩
abbrev main_while0b_v251 : Ref sig .tc := ⟨.hbm, 266, rfl⟩
abbrev main_while0b_cst_38 : Ref sig .tc := ⟨.hbm, 267, rfl⟩
abbrev main_while0b_v252 : Ref sig .tc := ⟨.hbm, 268, rfl⟩
abbrev main_while0b_v253 : Ref sig .tc := ⟨.hbm, 269, rfl⟩
abbrev main_while0b_v254 : Ref sig .tc := ⟨.hbm, 270, rfl⟩
abbrev main_while0b_v255 : Ref sig .tc := ⟨.hbm, 271, rfl⟩
abbrev main_while0b_v256 : Ref sig .tc := ⟨.hbm, 272, rfl⟩
abbrev main_while0b_v257 : Ref sig .tc := ⟨.hbm, 273, rfl⟩
abbrev main_while0b_v258 : Ref sig .tc := ⟨.hbm, 274, rfl⟩
abbrev main_while0b_v259 : Ref sig .tc := ⟨.hbm, 275, rfl⟩
abbrev main_while0b_v260 : Ref sig .tc := ⟨.hbm, 276, rfl⟩
abbrev main_while0b_v261 : Ref sig .tc := ⟨.hbm, 277, rfl⟩
abbrev main_while0b_cst_39 : Ref sig .tc := ⟨.hbm, 278, rfl⟩
abbrev main_while0b_v262 : Ref sig .tc := ⟨.hbm, 279, rfl⟩
abbrev main_while0b_v263 : Ref sig .tc := ⟨.hbm, 280, rfl⟩
abbrev main_while0b_cst_40 : Ref sig .tc := ⟨.hbm, 281, rfl⟩
abbrev main_while0b_v264 : Ref sig .tc := ⟨.hbm, 282, rfl⟩
abbrev main_while0b_v265 : Ref sig .tc := ⟨.hbm, 283, rfl⟩
abbrev main_while0b_cst_41 : Ref sig .tc := ⟨.hbm, 284, rfl⟩
abbrev main_while0b_v266 : Ref sig .tc := ⟨.hbm, 285, rfl⟩
abbrev main_while0b_v267 : Ref sig .tc := ⟨.hbm, 286, rfl⟩
abbrev main_while0b_v268 : Ref sig .tc := ⟨.hbm, 287, rfl⟩
abbrev main_while0b_v269 : Ref sig .tc := ⟨.hbm, 288, rfl⟩
abbrev main_while0b_v270 : Ref sig .tc := ⟨.hbm, 289, rfl⟩
abbrev main_while0b_v271 : Ref sig .tc := ⟨.hbm, 290, rfl⟩
abbrev main_while0b_v272 : Ref sig .tc := ⟨.hbm, 291, rfl⟩
abbrev main_while0b_v273 : Ref sig .tc := ⟨.hbm, 292, rfl⟩
abbrev main_while0b_v274 : Ref sig .tc := ⟨.hbm, 293, rfl⟩
abbrev main_while0b_v275 : Ref sig .tc := ⟨.hbm, 294, rfl⟩
abbrev main_while0b_call4_v0 : Ref sig .tc := ⟨.hbm, 295, rfl⟩
abbrev main_while0b_call4_v1 : Ref sig .tc := ⟨.hbm, 296, rfl⟩
abbrev main_while0b_call4_cst : Ref sig .tc := ⟨.hbm, 297, rfl⟩
abbrev main_while0b_call4_v2 : Ref sig .tc := ⟨.hbm, 298, rfl⟩
abbrev main_while0b_call4_v3 : Ref sig .tc := ⟨.hbm, 299, rfl⟩
abbrev main_while0b_call4_cst_0 : Ref sig .tc := ⟨.hbm, 300, rfl⟩
abbrev main_while0b_call4_v4 : Ref sig .tc := ⟨.hbm, 301, rfl⟩
abbrev main_while0b_call4_v5 : Ref sig .tc := ⟨.hbm, 302, rfl⟩
abbrev main_while0b_v276 : Ref sig .tc := ⟨.hbm, 303, rfl⟩
abbrev main_while0b_v277 : Ref sig .tc := ⟨.hbm, 304, rfl⟩
abbrev main_while0b_call5_v0 : Ref sig .tc := ⟨.hbm, 305, rfl⟩
abbrev main_while0b_call5_v1 : Ref sig .tc := ⟨.hbm, 306, rfl⟩
abbrev main_while0b_call5_cst : Ref sig .tc := ⟨.hbm, 307, rfl⟩
abbrev main_while0b_call5_v2 : Ref sig .tc := ⟨.hbm, 308, rfl⟩
abbrev main_while0b_call5_v3 : Ref sig .tc := ⟨.hbm, 309, rfl⟩
abbrev main_while0b_call5_cst_0 : Ref sig .tc := ⟨.hbm, 310, rfl⟩
abbrev main_while0b_call5_v4 : Ref sig .tc := ⟨.hbm, 311, rfl⟩
abbrev main_while0b_call5_v5 : Ref sig .tc := ⟨.hbm, 312, rfl⟩
abbrev main_while0b_v278 : Ref sig .tc := ⟨.hbm, 313, rfl⟩
abbrev main_while0b_v279 : Ref sig .tc := ⟨.hbm, 314, rfl⟩
abbrev main_while0b_v280 : Ref sig .tc := ⟨.hbm, 315, rfl⟩
abbrev main_while0b_v281 : Ref sig .tc := ⟨.hbm, 316, rfl⟩
abbrev main_while0b_v282 : Ref sig .tc := ⟨.hbm, 317, rfl⟩
abbrev main_while0b_v283 : Ref sig .tc := ⟨.hbm, 318, rfl⟩
abbrev main_while0b_cst_42 : Ref sig .tc := ⟨.hbm, 319, rfl⟩
abbrev main_while0b_v284 : Ref sig .tc := ⟨.hbm, 320, rfl⟩
abbrev main_while0b_v285 : Ref sig .tc := ⟨.hbm, 321, rfl⟩
abbrev main_while0b_cst_43 : Ref sig .tc := ⟨.hbm, 322, rfl⟩
abbrev main_while0b_v286 : Ref sig .tc := ⟨.hbm, 323, rfl⟩
abbrev main_while0b_v287 : Ref sig .tc := ⟨.hbm, 324, rfl⟩
abbrev main_while0b_cst_44 : Ref sig .tc := ⟨.hbm, 325, rfl⟩
abbrev main_while0b_v288 : Ref sig .tc := ⟨.hbm, 326, rfl⟩
abbrev main_while0b_v289 : Ref sig .tc := ⟨.hbm, 327, rfl⟩
abbrev main_while0b_v290 : Ref sig .tc := ⟨.hbm, 328, rfl⟩
abbrev main_while0b_v291 : Ref sig .tc := ⟨.hbm, 329, rfl⟩
abbrev main_while0b_v292 : Ref sig .tc := ⟨.hbm, 330, rfl⟩
abbrev main_while0b_v293 : Ref sig .tc := ⟨.hbm, 331, rfl⟩
abbrev main_while0b_v294 : Ref sig .tc := ⟨.hbm, 332, rfl⟩
abbrev main_while0b_v295 : Ref sig .tc := ⟨.hbm, 333, rfl⟩
abbrev main_while0b_call6_v0 : Ref sig .tc := ⟨.hbm, 334, rfl⟩
abbrev main_while0b_call6_c : Ref sig .tc := ⟨.hbm, 335, rfl⟩
abbrev main_while0b_call6_c_0 : Ref sig .tc := ⟨.hbm, 336, rfl⟩
abbrev main_while0b_call6_c_1 : Ref sig .tc := ⟨.hbm, 337, rfl⟩
abbrev main_while0b_v296 : Ref sig .tc := ⟨.hbm, 338, rfl⟩
abbrev main_while0b_c_45 : Ref sig .tc := ⟨.hbm, 339, rfl⟩
abbrev main_while0b_v297 : Ref sig .tc := ⟨.hbm, 340, rfl⟩
abbrev main_v19 : Ref sig .tc := ⟨.hbm, 341, rfl⟩
abbrev main_v20 : Ref sig .tc := ⟨.hbm, 342, rfl⟩
abbrev main_v21 : Ref sig .tc := ⟨.hbm, 343, rfl⟩
abbrev main_cst_1 : Ref sig .tc := ⟨.hbm, 344, rfl⟩
abbrev main_v22 : Ref sig .tc := ⟨.hbm, 345, rfl⟩
abbrev main_v23 : Ref sig .tc := ⟨.hbm, 346, rfl⟩
abbrev main_cst_2 : Ref sig .tc := ⟨.hbm, 347, rfl⟩
abbrev main_v24 : Ref sig .tc := ⟨.hbm, 348, rfl⟩
abbrev main_v25 : Ref sig .tc := ⟨.hbm, 349, rfl⟩
abbrev main_cst_3 : Ref sig .tc := ⟨.hbm, 350, rfl⟩
abbrev main_v26 : Ref sig .tc := ⟨.hbm, 351, rfl⟩
abbrev main_v27 : Ref sig .tc := ⟨.hbm, 352, rfl⟩
abbrev main_v28 : Ref sig .tc := ⟨.hbm, 353, rfl⟩
abbrev main_v29 : Ref sig .tc := ⟨.hbm, 354, rfl⟩
abbrev main_v30 : Ref sig .tc := ⟨.hbm, 355, rfl⟩
abbrev main_v31 : Ref sig .tc := ⟨.hbm, 356, rfl⟩
abbrev main_v32 : Ref sig .tc := ⟨.hbm, 357, rfl⟩
abbrev main_v33 : Ref sig .tc := ⟨.hbm, 358, rfl⟩
abbrev main_v34 : Ref sig .tc := ⟨.hbm, 359, rfl⟩
abbrev main_v35 : Ref sig .tc := ⟨.hbm, 360, rfl⟩
abbrev main_v36 : Ref sig .tc := ⟨.hbm, 361, rfl⟩
abbrev main_v37 : Ref sig .tc := ⟨.hbm, 362, rfl⟩
abbrev main_v38 : Ref sig .tc := ⟨.hbm, 363, rfl⟩
abbrev main_v39 : Ref sig .tc := ⟨.hbm, 364, rfl⟩
abbrev main_cst_4 : Ref sig .tc := ⟨.hbm, 365, rfl⟩
abbrev main_v40 : Ref sig .tc := ⟨.hbm, 366, rfl⟩
abbrev main_cst_5 : Ref sig .tc := ⟨.hbm, 367, rfl⟩
abbrev main_v41 : Ref sig .tc := ⟨.hbm, 368, rfl⟩
abbrev main_cst_6 : Ref sig .tc := ⟨.hbm, 369, rfl⟩
abbrev main_v42 : Ref sig .tc := ⟨.hbm, 370, rfl⟩
abbrev main_cst_7 : Ref sig .tc := ⟨.hbm, 371, rfl⟩
abbrev main_v43 : Ref sig .tc := ⟨.hbm, 372, rfl⟩
abbrev main_cst_8 : Ref sig .tc := ⟨.hbm, 373, rfl⟩
abbrev main_v44 : Ref sig .tc := ⟨.hbm, 374, rfl⟩
abbrev main_cst_9 : Ref sig .tc := ⟨.hbm, 375, rfl⟩
abbrev main_v45 : Ref sig .tc := ⟨.hbm, 376, rfl⟩
abbrev main_cst_10 : Ref sig .tc := ⟨.hbm, 377, rfl⟩
abbrev main_v46 : Ref sig .tc := ⟨.hbm, 378, rfl⟩
abbrev main_cst_11 : Ref sig .tc := ⟨.hbm, 379, rfl⟩
abbrev main_v47 : Ref sig .tc := ⟨.hbm, 380, rfl⟩
abbrev main_v48 : Ref sig .tc := ⟨.hbm, 381, rfl⟩
abbrev main_v49 : Ref sig .tc := ⟨.hbm, 382, rfl⟩
abbrev main_v50 : Ref sig .tc := ⟨.hbm, 383, rfl⟩
abbrev main_v51 : Ref sig .tc := ⟨.hbm, 384, rfl⟩
abbrev main_v52 : Ref sig .tc := ⟨.hbm, 385, rfl⟩
abbrev main_v53 : Ref sig .tc := ⟨.hbm, 386, rfl⟩
abbrev main_v54 : Ref sig .tc := ⟨.hbm, 387, rfl⟩
abbrev main_v55 : Ref sig .tc := ⟨.hbm, 388, rfl⟩
abbrev main_v56 : Ref sig .tc := ⟨.hbm, 389, rfl⟩
abbrev main_v57 : Ref sig .tc := ⟨.hbm, 390, rfl⟩
abbrev main_v58 : Ref sig .tc := ⟨.hbm, 391, rfl⟩
abbrev main_v59 : Ref sig .tc := ⟨.hbm, 392, rfl⟩
abbrev main_v60 : Ref sig .tc := ⟨.hbm, 393, rfl⟩
abbrev main_v61 : Ref sig .tc := ⟨.hbm, 394, rfl⟩

abbrev nD : Nat := 1
abbrev τ : Topo := Topo.v7x

variable {F : FTy → Type} [FloatOps F]

abbrev main_while0_count : Scf.Loop 32 := ⟨0#32, 16#32, 1#32⟩
-- ==== Proof.Tiles.lean ====
module

public import proofs.«01_k».proof.Proof.Gen.KernelIdeal

/-! The values of one grid point of the kernel, tile by tile: the same operations as the kernel's
body, written once for a batch `b`, a head `h` and a column group `g`, from the arrays it loads. -/

@[expose] public section

set_option maxRecDepth 16384

noncomputable section

namespace Cert.KernelIdeal

open Idealize.ShloMosaic Idealize.SL.Sem

/-- A tile of `128` rows out of `512`, at batch `b`. -/
theorem inRows {n : ℕ} (b : Fin 4) : Shape.Slices ⟨2, ![512, n]⟩ ![128 * (b : ℕ), 0] ⟨2, ![128, n]⟩ := by
  refine ⟨rfl, fun a => ?_⟩
  have hb := b.isLt
  fin_cases a
  · show 128 * (b : ℕ) + 128 ≤ 512; omega
  · show 0 + n ≤ n; omega

/-- A tile of `128` columns out of `256`, at half `i`. -/
theorem inHalf {n : ℕ} (h : Fin 8) : Shape.Slices ⟨2, ![n, 256]⟩ ![0, 128 * ((h : ℕ) % 2)] ⟨2, ![n, 128]⟩ := by
  refine ⟨rfl, fun a => ?_⟩
  fin_cases a
  · show 0 + n ≤ n; omega
  · show 128 * ((h : ℕ) % 2) + 128 ≤ 256; omega

/-- A sample's state lies within the head's states. -/
theorem inSample (j : Fin 4) : Shape.Slices S4x128x128 ![(j : ℕ), 0, 0] S1x128x128 := by
  refine ⟨rfl, fun a => ?_⟩
  have hj := j.isLt
  fin_cases a
  · show (j : ℕ) + 1 ≤ 4; omega
  · exact Nat.le_refl 128
  · exact Nat.le_refl 128

/-- A sample's column lies within the turned keys. -/
theorem inCol (j : Fin 4) : Shape.Slices S128x8 ![0, (j : ℕ)] S128x1 := by
  refine ⟨rfl, fun a => ?_⟩
  have hj := j.isLt
  fin_cases a
  · exact Nat.le_refl 128
  · show (j : ℕ) + 1 ≤ 8; omega

/-- A sample's row lies within the values. -/
theorem inRow (j : Fin 4) : Shape.Slices S8x128 ![(j : ℕ), 0] S1x128 := by
  refine ⟨rfl, fun a => ?_⟩
  have hj := j.isLt
  fin_cases a
  · show (j : ℕ) + 1 ≤ 8; omega
  · exact Nat.le_refl 128

/-- Two sequences' rows lie within the block's. -/
theorem inHalfRows (q : Fin 2) : Shape.Slices S512x1024 ![256 * (q : ℕ), 0] S256x1024 := by
  refine ⟨rfl, fun a => ?_⟩
  have hq := q.isLt
  fin_cases a
  · show 256 * (q : ℕ) + 256 ≤ 512; omega
  · exact Nat.le_refl 1024

/-- A sequence's last 15 rows lie within the 64 projected ones. -/
theorem inTail (b : Fin 4) : Shape.Slices S64x1024 ![16 * (b : ℕ) + 1, 0] S15x1024 := by
  refine ⟨rfl, fun a => ?_⟩
  have hb := b.isLt
  fin_cases a
  · show 16 * (b : ℕ) + 1 + 15 ≤ 64; omega
  · exact Nat.le_refl 1024

variable {F : FTy → Type} [FloatOps F] [Named F]

/-- What one grid point loads of its input windows, tile by tile. -/
structure Loads (F : FTy → Type) where
  x : Vec F S4x128x1024 .f32
  cos : Vec F S128x128 .f32
  sin : Vec F S128x128 .f32
  nw : Vec F S1x1024 .f32
  w : Fin 24 → Vec F S512x256 .i32
  ps : Fin 4 → Vec F S1x256 .f32
  rn : Fin 8 → Vec F S1x128 .f32
  fn : Vec F S1x1024 .f32
  wu : Vec F S512x1024 .i32
  wo : Fin 2 → Vec F S512x1024 .i32
  kq : Fin 8 → Vec F S1x8x128 .f32
  vq : Fin 8 → Vec F S1x8x128 .f32
  st : Fin 8 → Vec F S4x1x128x128 .f32

/-- A point's carried states, a tile for each batch and head. -/
abbrev States (F : FTy → Type) : Type := Fin 4 → Fin 8 → Vec F S1x1x128x128 .f32

/-- A point's recent pool rows, a tile for each batch and column group. -/
abbrev Hists (F : FTy → Type) : Type := Fin 4 → Fin 4 → Vec F S1x16x256 .f32

/-- The sample's decay of head `h`. -/
def gam (h : Fin 8) : F .f32 :=
  (![Scalar.ofBits .f32 0x3F780000#32, Scalar.ofBits .f32 0x3F7C0000#32, Scalar.ofBits .f32 0x3F7E0000#32,
    Scalar.ofBits .f32 0x3F7F0000#32, Scalar.ofBits .f32 0x3F7F8000#32, Scalar.ofBits .f32 0x3F7FC000#32,
    Scalar.ofBits .f32 0x3F7FE000#32, Scalar.ofBits .f32 0x3F7FF000#32] : Fin 8 → F .f32) h

/-- The logarithm of head `h`'s decay. -/
def lg (h : Fin 8) : F .f32 :=
  (![Named.named κ "log_decay_0" 0xBD020AEC#32, Named.named κ "log_decay_1" 0xBC8102B3#32,
    Named.named κ "log_decay_2" 0xBC0080AC#32, Named.named κ "log_decay_3" 0xBB80402B#32,
    Named.named κ "log_decay_4" 0xBB00200B#32, Named.named κ "log_decay_5" 0xBA801003#32,
    Named.named κ "log_decay_6" 0xBA000801#32, Named.named κ "log_decay_7" 0xB9800400#32] : Fin 8 → F .f32) h

/-- The factor a chunk multiplies head `h`'s state by. -/
def cd (h : Fin 8) : FVec F S128x128 .f32 :=
  (![broadcast S128x128 (Named.named κ "chunk_decay_0" 0x3C8CC36A#32),
    broadcast S128x128 (Named.named κ "chunk_decay_1" 0x3E08698E#32),
    broadcast S128x128 (Named.named κ "chunk_decay_2" 0x3EBB9DB9#32),
    broadcast S128x128 (Named.named κ "chunk_decay_3" 0x3F1B1EB1#32),
    broadcast S128x128 (Named.named κ "chunk_decay_4" 0x3F475303#32),
    broadcast S128x128 (Named.named κ "chunk_decay_5" 0x3F61E7C9#32),
    broadcast S128x128 (Named.named κ "chunk_decay_6" 0x3F707C6F#32),
    exp (mulf (broadcast S128x128 (Named.named κ "log_decay_7" 0xB9800400#32))
      (broadcast S128x128 (Scalar.ofBits .f32 0x43000000#32)))] : Fin 8 → FVec F S128x128 .f32) h

/-- The divisor of pool group `g`: its window's length. -/
def wlen (g : Fin 4) : F .f32 :=
  (![Scalar.ofBits .f32 0x40000000#32, Scalar.ofBits .f32 0x40800000#32, Scalar.ofBits .f32 0x41000000#32,
    Scalar.ofBits .f32 0x41800000#32] : Fin 4 → F .f32) g

/-- The rows' indices. -/
def rowI : FVec F S128x128 .f32 := sitofp .f32 (iota .tc S128x128 32 [0] (by decide))

/-- The row's index minus the column's. -/
def dif : FVec F S128x128 .f32 := subf (rowI (F := F)) (sitofp .f32 (iota .tc S128x128 32 [1] (by decide)))

/-- The causal decay between two positions of a chunk. -/
def dmask (h : Fin 8) : FVec F S128x128 .f32 :=
  select (cmpf .oge (dif (F := F)) (broadcast S128x128 (Scalar.ofBits .f32 0x00000000#32)))
    (exp (mulf (broadcast S128x128 (lg h)) (maximumf dif (broadcast S128x128 (Scalar.ofBits .f32 0x00000000#32)))))
    (broadcast S128x128 (Scalar.ofBits .f32 0x00000000#32))

/-- The decay of a query against the state the chunk starts from. -/
def qdec (h : Fin 8) : FVec F S128x128 .f32 :=
  exp (mulf (broadcast S128x128 (lg h)) (addf rowI (broadcast S128x128 (Scalar.ofBits .f32 0x3F800000#32))))

/-- The decay of a key up to the chunk's end. -/
def kdec (h : Fin 8) : FVec F S128x128 .f32 :=
  exp (mulf (broadcast S128x128 (lg h)) (subf (broadcast S128x128 (Scalar.ofBits .f32 0x42FE0000#32)) rowI))

/-- A sum of `r`-shifted copies along the rows. -/
def rollAdd (r : BitVec 32) (v : FVec F S144x256 .f32) : FVec F S144x256 .f32 :=
  addf v (dynamicRotate 0 r none v (by decide))

/-- The trailing-window sum of pool group `g`. -/
def winSum (g : Fin 4) (v : FVec F S144x256 .f32) : FVec F S144x256 .f32 :=
  (![rollAdd 1#32 v, rollAdd 2#32 (rollAdd 1#32 v), rollAdd 4#32 (rollAdd 2#32 (rollAdd 1#32 v)),
    rollAdd 8#32 (rollAdd 4#32 (rollAdd 2#32 (rollAdd 1#32 v)))] : Fin 4 → FVec F S144x256 .f32) g

/-- `v / (1 + exp(-v))`, on a wide tile. -/
def silu256 (v : FVec F S512x256 .f32) : FVec F S512x256 .f32 :=
  mulf v (divf (broadcast S512x256 (Scalar.ofBits .f32 0x3F800000#32))
    (addf (broadcast S512x256 (Scalar.ofBits .f32 0x3F800000#32))
      (exp (subf (broadcast S512x256 (Scalar.ofBits .f32 0x00000000#32)) v))))

/-- `v / (1 + exp(-v))`, on a head's tile. -/
def silu128 (v : FVec F S128x128 .f32) : FVec F S128x128 .f32 :=
  mulf v (divf (broadcast S128x128 (Scalar.ofBits .f32 0x3F800000#32))
    (addf (broadcast S128x128 (Scalar.ofBits .f32 0x3F800000#32))
      (exp (subf (broadcast S128x128 (Scalar.ofBits .f32 0x00000000#32)) v))))

namespace Loads

variable (L : Loads F)

/-- The prompt's rows. -/
def xr : FVec F S512x1024 .f32 := shapeCast S512x1024 L.x (by decide)

/-- The normalised rows. -/
def hb : FVec F S512x1024 .bf16 :=
  truncf .bf16 (mulf (mulf L.xr (broadcastTo S512x1024 (rsqrt (addf (divf
    (shapeCast S512x1 (multiReduction .add [1] S512 (mulf L.xr L.xr) 0x00000000#32 (by decide) (.inl rfl) rfl) (by decide))
    (broadcast S512x1 (Scalar.ofBits .f32 0x44800000#32)))
    (broadcast S512x1 (Scalar.ofBits .f32 0x358637BD#32)))) (by decide)))
    (broadcastTo S512x1024 L.nw (by decide))) (by decide)

/-- The rows' projection by the weights' column tile `t`. -/
def proj (t : Fin 24) : FVec F S512x256 .f32 :=
  matmul dot_S512x1024_S1024x256_S512x256_1_0_0_1_n_n none L.hb
    (bitcastToFloat .bf16 (bitcast S1024x256 16 (L.w t) (by decide))) (constant S512x256 .f32 0x00000000#32)

/-- Batch `b`'s rows of a column tile. -/
def rows (b : Fin 4) (v : FVec F S512x256 .f32) : FVec F S128x256 .f32 :=
  extractStridedSlice S128x256 ![128 * (b : ℕ), 0] v (inRows b)

/-- Head `h`'s half of batch `b`'s rows. -/
def head (b : Fin 4) (h : Fin 8) (v : FVec F S512x256 .f32) : FVec F S128x128 .f32 :=
  extractStridedSlice S128x128 ![0, 128 * ((h : ℕ) % 2)] (rows b v) (inHalf h)

/-- A head's tile turned by the positions' angles. -/
def rot (v : FVec F S128x128 .f32) : FVec F S128x128 .f32 :=
  addf (mulf v (shapeCast S128x128 L.cos (by decide)))
    (mulf (dynamicRotate 1 64#32 none v (by decide)) (shapeCast S128x128 L.sin (by decide)))

/-- The queries. -/
def q (b : Fin 4) (h : Fin 8) : FVec F S128x128 .f32 :=
  L.rot (head b h (L.proj ⟨8 + (h : ℕ) / 2, by have := h.isLt; omega⟩))

/-- The scaled keys. -/
def k (b : Fin 4) (h : Fin 8) : FVec F S128x128 .f32 :=
  mulf (L.rot (head b h (L.proj ⟨12 + (h : ℕ) / 2, by have := h.isLt; omega⟩)))
    (broadcast S128x128 (Named.named κ "k_scale" 0x3DB504F3#32))

/-- The values. -/
def v (b : Fin 4) (h : Fin 8) : FVec F S128x128 .bf16 :=
  truncf .bf16 (head b h (L.proj ⟨16 + (h : ℕ) / 2, by have := h.isLt; omega⟩)) (by decide)

/-- The state the chunk ends with, from the one it starts from. -/
def s1 (b : Fin 4) (h : Fin 8) (S : Vec F S1x1x128x128 .f32) : FVec F S1x1x128x128 .f32 :=
  shapeCast S1x1x128x128 (addf (mulf (cd h) (shapeCast S128x128 S (by decide)))
    (matmul dot_S128x128_S128x128_S128x128_0_0_1_1_n_n none (truncf .bf16 (mulf (L.k b h) (kdec h)) (by decide))
      (L.v b h) (constant S128x128 .f32 0x00000000#32))) (by decide)

/-- The retention's output. -/
def o (b : Fin 4) (h : Fin 8) (S : Vec F S1x1x128x128 .f32) : FVec F S128x128 .f32 :=
  addf (matmul dot_S128x128_S128x128_S128x128_1_0_0_1_n_n none
      (truncf .bf16 (mulf (matmul dot_S128x128_S128x128_S128x128_1_1_0_0_n_n none (truncf .bf16 (L.q b h) (by decide))
        (truncf .bf16 (L.k b h) (by decide)) (constant S128x128 .f32 0x00000000#32)) (dmask h)) (by decide))
      (L.v b h) (constant S128x128 .f32 0x00000000#32))
    (matmul dot_S128x128_S128x128_S128x128_1_0_0_1_n_n none (truncf .bf16 (mulf (L.q b h) (qdec h)) (by decide))
      (truncf .bf16 (shapeCast S128x128 S (by decide)) (by decide)) (constant S128x128 .f32 0x00000000#32))

/-- The pool's inputs of column group `g`. -/
def u (b : Fin 4) (g : Fin 4) : FVec F S128x256 .f32 := rows b (L.proj ⟨(g : ℕ), by have := g.isLt; omega⟩)

/-- The pool's window mean minus the row itself. -/
def pool (b : Fin 4) (g : Fin 4) (H : Vec F S1x16x256 .f32) : FVec F S128x256 .f32 :=
  subf (divf (extractStridedSlice S128x256 ![16, 0] (winSum g (concatenate S144x256 0
      [⟨S16x256, shapeCast S16x256 H (by decide)⟩, ⟨S128x256, L.u b g⟩] Gen.concatenates_S16x256_S128x256_S144x256_d0)) (by decide))
    (broadcast S128x256 (wlen g))) (L.u b g)

/-- The last rows of the chunk, kept for the next. -/
def h1T (b : Fin 4) (g : Fin 4) : FVec F S1x16x256 .f32 :=
  shapeCast S1x16x256 (extractStridedSlice S16x256 ![112, 0] (L.u b g) (by decide)) (by decide)

/-- The pool's gated column tile `g`. -/
def pm (g : Fin 4) (H : Hists F) : FVec F S512x256 .bf16 :=
  truncf .bf16 (mulf (mulf (concatenate S512x256 0 [⟨S128x256, L.pool 0 g (H 0 g)⟩, ⟨S128x256, L.pool 1 g (H 1 g)⟩,
      ⟨S128x256, L.pool 2 g (H 2 g)⟩, ⟨S128x256, L.pool 3 g (H 3 g)⟩] Gen.concatenates_S128x256_S128x256_S128x256_S128x256_S512x256_d0)
    (broadcastTo S512x256 (L.ps g) (by decide)))
    (silu256 (L.proj ⟨4 + (g : ℕ), by have := g.isLt; omega⟩))) (by decide)

/-- The output weights' half `p`. -/
def wout (p : Fin 2) : FVec F S1024x1024 .bf16 :=
  bitcastToFloat .bf16 (bitcast S1024x1024 16 (L.wo p) (by decide))

/-- The rows plus the pool's part of the output projection. -/
def acc (H : Hists F) : FVec F S512x1024 .f32 :=
  addf L.xr (matmul dot_S512x1024_S1024x1024_S512x1024_1_0_0_1_n_n none
    (concatenate S512x1024 1 [⟨S512x256, L.pm 0 H⟩, ⟨S512x256, L.pm 1 H⟩, ⟨S512x256, L.pm 2 H⟩, ⟨S512x256, L.pm 3 H⟩] Gen.concatenates_S512x256_S512x256_S512x256_S512x256_S512x1024_d1)
    (L.wout 0) (constant S512x1024 .f32 0x00000000#32))

/-- The retention's normalised and gated head tile. -/
def rh (b : Fin 4) (h : Fin 8) (S : Vec F S1x1x128x128 .f32) : FVec F S128x128 .bf16 :=
  truncf .bf16 (mulf (mulf (mulf (L.o b h S) (broadcastTo S128x128 (rsqrt (addf (divf
      (shapeCast S128x1 (multiReduction .add [1] S128 (mulf (L.o b h S) (L.o b h S)) 0x00000000#32 (by decide) (.inl rfl) rfl) (by decide))
      (broadcast S128x1 (Scalar.ofBits .f32 0x43000000#32)))
      (broadcast S128x1 (Scalar.ofBits .f32 0x358637BD#32)))) (by decide)))
    (broadcastTo S128x128 (L.rn h) (by decide)))
    (silu128 (head b h (L.proj ⟨20 + (h : ℕ) / 2, by have := h.isLt; omega⟩)))) (by decide)

/-- Batch `b`'s retention rows, head after head. -/
def rb (b : Fin 4) (S : States F) : FVec F S128x1024 .bf16 :=
  concatenate S128x1024 1 [⟨S128x128, L.rh b 0 (S b 0)⟩, ⟨S128x128, L.rh b 1 (S b 1)⟩, ⟨S128x128, L.rh b 2 (S b 2)⟩, ⟨S128x128, L.rh b 3 (S b 3)⟩,
    ⟨S128x128, L.rh b 4 (S b 4)⟩, ⟨S128x128, L.rh b 5 (S b 5)⟩, ⟨S128x128, L.rh b 6 (S b 6)⟩, ⟨S128x128, L.rh b 7 (S b 7)⟩] Gen.concatenates_S128x128_S128x128_S128x128_S128x128_S128x128_S128x128_S128x128_S128x128_S128x1024_d1

/-- The output rows of two batches before the last norm, from the rows so far and the retention's. -/
def pre (p : Fin 2) (a : FVec F S512x1024 .f32) (r0 r1 : FVec F S128x1024 .bf16) : FVec F S256x1024 .f32 :=
  addf (extractStridedSlice S256x1024 ![256 * (p : ℕ), 0] a (inHalfRows p))
    (matmul dot_S256x1024_S1024x1024_S256x1024_1_0_0_1_n_n none
      (concatenate S256x1024 0 [⟨S128x1024, r0⟩, ⟨S128x1024, r1⟩] Gen.concatenates_S128x1024_S128x1024_S256x1024_d0)
      (L.wout 1) (constant S256x1024 .f32 0x00000000#32))

/-- Two batches' rows, normed. -/
def nrm (v : FVec F S256x1024 .f32) : FVec F S2x128x1024 .f32 :=
  shapeCast S2x128x1024 (mulf (mulf v (broadcastTo S256x1024 (rsqrt (addf (divf
      (shapeCast S256x1 (multiReduction .add [1] S256 (mulf v v) 0x00000000#32 (by decide) (.inl rfl) rfl) (by decide))
      (broadcast S256x1 (Scalar.ofBits .f32 0x44800000#32)))
      (broadcast S256x1 (Scalar.ofBits .f32 0x358637BD#32)))) (by decide)))
    (broadcastTo S256x1024 L.fn (by decide))) (by decide)

/-- The output rows of two batches. -/
def yT (p : Fin 2) (S : States F) (H : Hists F) : FVec F S2x128x1024 .f32 :=
  L.nrm (L.pre p (L.acc H) (L.rb ⟨2 * (p : ℕ), by have := p.isLt; omega⟩ S) (L.rb ⟨2 * (p : ℕ) + 1, by have := p.isLt; omega⟩ S))

/-- The sample's state of row `j` and head `h`. -/
def so (j : Fin 4) (h : Fin 8) : FVec F S1x1x128x128 .f32 :=
  shapeCast S1x1x128x128 (addf (mulf (broadcast S128x128 (gam h))
      (shapeCast S128x128 (extractStridedSlice S1x128x128 ![(j : ℕ), 0, 0] (shapeCast S4x128x128 (L.st h) (by decide)) (inSample j)) (by decide)))
    (mulf (broadcastTo S128x128 (extractStridedSlice S128x1 ![0, (j : ℕ)]
        (transpose S128x8 [1, 0] (shapeCast S8x128 (L.kq h) (by decide)) (by decide)) (inCol j)) (by decide))
      (broadcastTo S128x128 (extractStridedSlice S1x128 ![(j : ℕ), 0] (shapeCast S8x128 (L.vq h) (by decide)) (inRow j)) (by decide))))
    (by decide)

/-- Batch `b`'s last rows before projection. -/
def lastH (b : Fin 4) : FVec F S16x1024 .bf16 :=
  extractStridedSlice S16x1024 ![112, 0] (extractStridedSlice S128x1024 ![128 * (b : ℕ), 0] L.hb (inRows b)) (by decide)

/-- The last pool inputs of batch `b`. -/
def pb (b : Fin 4) : FVec F S1x15x1024 .f32 :=
  shapeCast S1x15x1024 (extractStridedSlice S15x1024 ![16 * (b : ℕ) + 1, 0]
    (matmul dot_S64x1024_S1024x1024_S64x1024_1_0_0_1_n_n none
      (concatenate S64x1024 0 [⟨S16x1024, L.lastH 0⟩, ⟨S16x1024, L.lastH 1⟩, ⟨S16x1024, L.lastH 2⟩, ⟨S16x1024, L.lastH 3⟩] Gen.concatenates_S16x1024_S16x1024_S16x1024_S16x1024_S64x1024_d0)
      (bitcastToFloat .bf16 (bitcast S1024x1024 16 L.wu (by decide))) (constant S64x1024 .f32 0x00000000#32)) (inTail b)) (by decide)

end Loads

end Cert.KernelIdeal
-- ==== Proof.Pieces.lean ====
module

public import proofs.«01_k».proof.Proof.Tiles
public import Idealize.ShloMosaic.Lib.Pipeline.ValueKit

/-! The arrays a grid point loads, as tiles of its windows, and the tiles it stores, as lists. -/

@[expose] public section

set_option maxRecDepth 16384

noncomputable section

namespace Cert.KernelIdeal

open Idealize.ShloMosaic Idealize.SL.Sem

/-- A tile of the projection columns lies within the packed weights. -/
theorem inW (t : Fin 24) : ∀ a, (![0, 256 * (t : ℕ)] : Fin 2 → ℕ) a + S512x256.size a ≤ S512x6144.size a := by
  have ht := t.isLt
  intro a; fin_cases a
  · exact Nat.le_refl 512
  · show 256 * (t : ℕ) + 256 ≤ 6144; omega

/-- A window group's columns lie within the pool's scales. -/
theorem inPs (g : Fin 4) : ∀ a, (![0, 256 * (g : ℕ)] : Fin 2 → ℕ) a + S1x256.size a ≤ S1x1024.size a := by
  have hg := g.isLt
  intro a; fin_cases a
  · exact Nat.le_refl 1
  · show 256 * (g : ℕ) + 256 ≤ 1024; omega

/-- A head's columns lie within the heads' norm weights. -/
theorem inRn (h : Fin 8) : ∀ a, (![0, 128 * (h : ℕ)] : Fin 2 → ℕ) a + S1x128.size a ≤ S1x1024.size a := by
  have hh := h.isLt
  intro a; fin_cases a
  · exact Nat.le_refl 1
  · show 128 * (h : ℕ) + 128 ≤ 1024; omega

/-- A half of the packed output rows lies within them. -/
theorem inWo (p : Fin 2) : ∀ a, (![512 * (p : ℕ), 0] : Fin 2 → ℕ) a + S512x1024.size a ≤ S1024x1024.size a := by
  have hp := p.isLt
  intro a; fin_cases a
  · show 512 * (p : ℕ) + 512 ≤ 1024; omega
  · exact Nat.le_refl 1024

/-- A head's columns of the sample's queries, keys or values lie within its rows. -/
theorem inQkv (o : ℕ) (h : Fin 8) (ho : o + 1024 ≤ 3072) :
    ∀ a, (![0, 0, o + 128 * (h : ℕ)] : Fin 3 → ℕ) a + S1x8x128.size a ≤ S1x8x3072.size a := by
  have hh := h.isLt
  intro a; fin_cases a
  · exact Nat.le_refl 1
  · exact Nat.le_refl 8
  · show o + 128 * (h : ℕ) + 128 ≤ 3072; omega

/-- A head's states lie within the sample block's. -/
theorem inSt (h : Fin 8) : ∀ a, (![0, (h : ℕ), 0, 0] : Fin 4 → ℕ) a + S4x1x128x128.size a ≤ S4x8x128x128.size a := by
  have hh := h.isLt
  intro a; fin_cases a
  · exact Nat.le_refl 4
  · show (h : ℕ) + 1 ≤ 8; omega
  · exact Nat.le_refl 128
  · exact Nat.le_refl 128

/-- A head's state lies within the carried states. -/
theorem inS (b : Fin 4) (h : Fin 8) :
    ∀ a, (![(b : ℕ), (h : ℕ), 0, 0] : Fin 4 → ℕ) a + S1x1x128x128.size a ≤ S4x8x128x128.size a := by
  have hb := b.isLt
  have hh := h.isLt
  intro a; fin_cases a
  · show (b : ℕ) + 1 ≤ 4; omega
  · show (h : ℕ) + 1 ≤ 8; omega
  · exact Nat.le_refl 128
  · exact Nat.le_refl 128

/-- A sequence's kept rows of a window group lie within the scratch. -/
theorem inH (b g : Fin 4) :
    ∀ a, (![(b : ℕ), 0, 256 * (g : ℕ)] : Fin 3 → ℕ) a + S1x16x256.size a ≤ S4x16x1024.size a := by
  have hb := b.isLt
  have hg := g.isLt
  intro a; fin_cases a
  · show (b : ℕ) + 1 ≤ 4; omega
  · exact Nat.le_refl 16
  · show 256 * (g : ℕ) + 256 ≤ 1024; omega

/-- A pair of sequences lies within the output block. -/
theorem inY (p : Fin 2) : ∀ a, (![2 * (p : ℕ), 0, 0] : Fin 3 → ℕ) a + S2x128x1024.size a ≤ S4x128x1024.size a := by
  have hp := p.isLt
  intro a; fin_cases a
  · show 2 * (p : ℕ) + 2 ≤ 4; omega
  · exact Nat.le_refl 128
  · exact Nat.le_refl 1024

/-- A sequence's rows lie within the pool buffer's block. -/
theorem inPb (b : Fin 4) : ∀ a, (![(b : ℕ), 0, 0] : Fin 3 → ℕ) a + S1x15x1024.size a ≤ S4x15x1024.size a := by
  have hb := b.isLt
  intro a; fin_cases a
  · show (b : ℕ) + 1 ≤ 4; omega
  · exact Nat.le_refl 15
  · exact Nat.le_refl 1024

variable {F : FTy → Type} [FloatOps F] [Named F]

/-- A head's tile of a state array. -/
abbrev rS (b : Fin 4) (h : Fin 8) : Rect S4x8x128x128 := Rect.unit ![(b : ℕ), (h : ℕ), 0, 0] S1x1x128x128.size (inS b h)

/-- A column group's tile of the recent pool rows. -/
abbrev rH (b g : Fin 4) : Rect S4x16x1024 := Rect.unit ![(b : ℕ), 0, 256 * (g : ℕ)] S1x16x256.size (inH b g)

/-- Two batches' rows of the output. -/
abbrev rY (p : Fin 2) : Rect S4x128x1024 := Rect.unit ![2 * (p : ℕ), 0, 0] S2x128x1024.size (inY p)

/-- A batch's last pool rows. -/
abbrev rPb (b : Fin 4) : Rect S4x15x1024 := Rect.unit ![(b : ℕ), 0, 0] S1x15x1024.size (inPb b)

/-- The batch of the `n`-th stored head tile, counted from the last. -/
abbrev bOf (n : Fin 32) : Fin 4 := ⟨3 - (n : ℕ) % 4, by omega⟩

/-- The head of the `n`-th stored head tile, counted from the last. -/
abbrev hOf (n : Fin 32) : Fin 8 := ⟨7 - (n : ℕ) / 4, by omega⟩

/-- The batch of the `n`-th kept pool tile, counted from the last. -/
abbrev bOf' (n : Fin 16) : Fin 4 := ⟨3 - (n : ℕ) % 4, by omega⟩

/-- The column group of the `n`-th kept pool tile, counted from the last. -/
abbrev gOf (n : Fin 16) : Fin 4 := ⟨3 - (n : ℕ) / 4, by omega⟩

namespace Loads

variable (L : Loads F)

/-- The sample states stored, last first. -/
def soL : List (View.Piece (Elt F) S4x8x128x128 .f32) := List.ofFn fun n : Fin 32 => ⟨rS (bOf n) (hOf n), L.so (bOf n) (hOf n)⟩

/-- The prompt states stored, last first. -/
def sL (S : States F) : List (View.Piece (Elt F) S4x8x128x128 .f32) :=
  List.ofFn fun n : Fin 32 => ⟨rS (bOf n) (hOf n), L.s1 (bOf n) (hOf n) (S (bOf n) (hOf n))⟩

/-- The pool rows kept, last first. -/
def hL : List (View.Piece (Elt F) S4x16x1024 .f32) := List.ofFn fun n : Fin 16 => ⟨rH (bOf' n) (gOf n), L.h1T (bOf' n) (gOf n)⟩

/-- The output rows stored, last first. -/
def yL (S : States F) (H : Hists F) : List (View.Piece (Elt F) S4x128x1024 .f32) := [⟨rY 1, L.yT 1 S H⟩, ⟨rY 0, L.yT 0 S H⟩]

/-- The last pool rows stored, last first. -/
def pbL : List (View.Piece (Elt F) S4x15x1024 .f32) := [⟨rPb 3, L.pb 3⟩, ⟨rPb 2, L.pb 2⟩, ⟨rPb 1, L.pb 1⟩, ⟨rPb 0, L.pb 0⟩]

end Loads

/-- What a grid point loads from its windows' contents. -/
def ofWindows (arg2 : Memref sig .tc .vmem S4x128x1024 .f32) (harg2 : arg2.IsWhole) (arg3 : Memref sig .tc .vmem S128x128 .f32) (harg3 : arg3.IsWhole) (arg4 : Memref sig .tc .vmem S128x128 .f32) (harg4 : arg4.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x6144 .i32) (harg11 : arg11.IsWhole) (arg12 : Memref sig .tc .vmem S512x1024 .i32) (harg12 : arg12.IsWhole) (arg13 : Memref sig .tc .vmem S1024x1024 .i32) (harg13 : arg13.IsWhole) (arg14 : Memref sig .tc .vmem S1x8x3072 .f32) (harg14 : arg14.IsWhole) (arg15 : Memref sig .tc .vmem S4x8x128x128 .f32) (harg15 : arg15.IsWhole)
    (x0 : Vec F S4x128x1024 .f32) (x1 : Vec F S128x128 .f32) (x2 : Vec F S128x128 .f32) (x5 : Vec F S1x1024 .f32) (x6 : Vec F S1x1024 .f32) (x7 : Vec F S1x1024 .f32) (x8 : Vec F S1x1024 .f32) (x9 : Vec F S512x6144 .i32) (x10 : Vec F S512x1024 .i32) (x11 : Vec F S1024x1024 .i32) (x12 : Vec F S1x8x3072 .f32) (x13 : Vec F S4x8x128x128 .f32) : Loads F where
  x := View.readAt (Elt F) arg2.view (Rect.unit (s := S4x128x1024) ![0, 0, 0] S4x128x1024.size (by decide)).toLoadRect (harg2.unread x0)
  cos := View.readAt (Elt F) arg3.view (Rect.unit (s := S128x128) ![0, 0] S128x128.size (by decide)).toLoadRect (harg3.unread x1)
  sin := View.readAt (Elt F) arg4.view (Rect.unit (s := S128x128) ![0, 0] S128x128.size (by decide)).toLoadRect (harg4.unread x2)
  nw := View.readAt (Elt F) arg7.view (Rect.unit (s := S1x1024) ![0, 0] S1x1024.size (by decide)).toLoadRect (harg7.unread x5)
  w t := View.readAt (Elt F) arg11.view (Rect.unit (s := S512x6144) ![0, 256 * (t : ℕ)] S512x256.size (inW t)).toLoadRect (harg11.unread x9)
  ps g := View.readAt (Elt F) arg8.view (Rect.unit (s := S1x1024) ![0, 256 * (g : ℕ)] S1x256.size (inPs g)).toLoadRect (harg8.unread x6)
  rn h := View.readAt (Elt F) arg9.view (Rect.unit (s := S1x1024) ![0, 128 * (h : ℕ)] S1x128.size (inRn h)).toLoadRect (harg9.unread x7)
  fn := View.readAt (Elt F) arg10.view (Rect.unit (s := S1x1024) ![0, 0] S1x1024.size (by decide)).toLoadRect (harg10.unread x8)
  wu := View.readAt (Elt F) arg12.view (Rect.unit (s := S512x1024) ![0, 0] S512x1024.size (by decide)).toLoadRect (harg12.unread x10)
  wo p := View.readAt (Elt F) arg13.view (Rect.unit (s := S1024x1024) ![512 * (p : ℕ), 0] S512x1024.size (inWo p)).toLoadRect (harg13.unread x11)
  kq h := View.readAt (Elt F) arg14.view (Rect.unit (s := S1x8x3072) ![0, 0, 1024 + 128 * (h : ℕ)] S1x8x128.size (inQkv 1024 h (by decide))).toLoadRect (harg14.unread x12)
  vq h := View.readAt (Elt F) arg14.view (Rect.unit (s := S1x8x3072) ![0, 0, 2048 + 128 * (h : ℕ)] S1x8x128.size (inQkv 2048 h (by decide))).toLoadRect (harg14.unread x12)
  st h := View.readAt (Elt F) arg15.view (Rect.unit (s := S4x8x128x128) ![0, (h : ℕ), 0, 0] S4x1x128x128.size (inSt h)).toLoadRect (harg15.unread x13)

/-- The states a point loads from the state window's contents. -/
def stOf (arg17 : Memref sig .tc .vmem S4x8x128x128 .f32) (harg17 : arg17.IsWhole) (X : Vec F S4x8x128x128 .f32) : States F :=
  fun b h => View.readAt (Elt F) arg17.view (rS b h).toLoadRect (harg17.unread X)

/-- The recent pool rows a point loads from the kept rows' contents. -/
def hsOf (arg21 : Memref sig .tc .vmem S4x16x1024 .f32) (harg21 : arg21.IsWhole) (X : Vec F S4x16x1024 .f32) : Hists F :=
  fun b g => View.readAt (Elt F) arg21.view (rH b g).toLoadRect (harg21.unread X)

/-- The states a sequence starts from, a store for each batch, last first. -/
def sI (arg5 : Memref sig .tc .vmem S8x128x128 .f32) (harg5 : arg5.IsWhole) (x3 : Vec F S8x128x128 .f32) :
    List (View.Piece (Elt F) S4x8x128x128 .f32) :=
  [⟨Rect.unit ![3, 0, 0, 0] S1x8x128x128.size (by decide), shapeCast S1x8x128x128 (View.readAt (Elt F) arg5.view (Rect.unit (s := S8x128x128) ![0, 0, 0] S8x128x128.size (by decide)).toLoadRect (harg5.unread x3)) (by decide)⟩,
   ⟨Rect.unit ![2, 0, 0, 0] S1x8x128x128.size (by decide), shapeCast S1x8x128x128 (View.readAt (Elt F) arg5.view (Rect.unit (s := S8x128x128) ![0, 0, 0] S8x128x128.size (by decide)).toLoadRect (harg5.unread x3)) (by decide)⟩,
   ⟨Rect.unit ![1, 0, 0, 0] S1x8x128x128.size (by decide), shapeCast S1x8x128x128 (View.readAt (Elt F) arg5.view (Rect.unit (s := S8x128x128) ![0, 0, 0] S8x128x128.size (by decide)).toLoadRect (harg5.unread x3)) (by decide)⟩,
   ⟨Rect.unit ![0, 0, 0, 0] S1x8x128x128.size (by decide), shapeCast S1x8x128x128 (View.readAt (Elt F) arg5.view (Rect.unit (s := S8x128x128) ![0, 0, 0] S8x128x128.size (by decide)).toLoadRect (harg5.unread x3)) (by decide)⟩]

/-- The pool rows a sequence starts from, a store for each batch, last first. -/
def hI (arg6 : Memref sig .tc .vmem S16x1024 .f32) (harg6 : arg6.IsWhole) (x4 : Vec F S16x1024 .f32) :
    List (View.Piece (Elt F) S4x16x1024 .f32) :=
  [⟨Rect.unit ![3, 0, 0] S1x16x1024.size (by decide), shapeCast S1x16x1024 (View.readAt (Elt F) arg6.view (Rect.unit (s := S16x1024) ![0, 0] S16x1024.size (by decide)).toLoadRect (harg6.unread x4)) (by decide)⟩,
   ⟨Rect.unit ![2, 0, 0] S1x16x1024.size (by decide), shapeCast S1x16x1024 (View.readAt (Elt F) arg6.view (Rect.unit (s := S16x1024) ![0, 0] S16x1024.size (by decide)).toLoadRect (harg6.unread x4)) (by decide)⟩,
   ⟨Rect.unit ![1, 0, 0] S1x16x1024.size (by decide), shapeCast S1x16x1024 (View.readAt (Elt F) arg6.view (Rect.unit (s := S16x1024) ![0, 0] S16x1024.size (by decide)).toLoadRect (harg6.unread x4)) (by decide)⟩,
   ⟨Rect.unit ![0, 0, 0] S1x16x1024.size (by decide), shapeCast S1x16x1024 (View.readAt (Elt F) arg6.view (Rect.unit (s := S16x1024) ![0, 0] S16x1024.size (by decide)).toLoadRect (harg6.unread x4)) (by decide)⟩]

end Cert.KernelIdeal
-- ==== Proof.CaseA.lean ====
module

public import proofs.«01_k».proof.Proof.Pieces
public import proofs.«01_k».proof.Proof.Gen.KernelIdeal.Frame.RunA

/-! The tiles a first point of a sequence stores, as lists: the sample states, the prompt states, the kept pool rows. -/

@[expose] public section

set_option maxRecDepth 16384

noncomputable section

namespace Cert.KernelIdeal

open Idealize.ShloMosaic Idealize.SL.Sem

variable {F : FTy → Type} [FloatOps F] [Named F] (c : Dev nD) (i : grid0.Coords)
  (arg2 : Memref sig .tc .vmem S4x128x1024 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S8x128x128 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x6144 .i32) (harg11 : arg11.IsWhole) (arg12 : Memref sig .tc .vmem S512x1024 .i32) (harg12 : arg12.IsWhole) (arg13 : Memref sig .tc .vmem S1024x1024 .i32) (harg13 : arg13.IsWhole) (arg14 : Memref sig .tc .vmem S1x8x3072 .f32) (harg14 : arg14.IsWhole) (arg15 : Memref sig .tc .vmem S4x8x128x128 .f32) (harg15 : arg15.IsWhole) (arg16 : Memref sig .tc .vmem S4x128x1024 .f32) (harg16 : arg16.IsWhole) (arg17 : Memref sig .tc .vmem S4x8x128x128 .f32) (harg17 : arg17.IsWhole) (arg18 : Memref sig .tc .vmem S4x15x1024 .f32) (harg18 : arg18.IsWhole) (arg19 : Memref sig .tc .vmem S4x8x128x128 .f32) (harg19 : arg19.IsWhole) (arg20 : Memref sig .tc .vmem S1x8x1024 .f32) (harg20 : arg20.IsWhole) (arg21 : Memref sig .tc .vmem S4x16x1024 .f32) (harg21 : arg21.IsWhole)
  (hc0 : Gen.cond0_0 i) (hc1 : ¬Gen.cond0_1 i)
  (x0 : Vec F S4x128x1024 .f32) (x1 : Vec F S128x128 .f32) (x2 : Vec F S128x128 .f32) (x3 : Vec F S8x128x128 .f32) (x4 : Vec F S16x1024 .f32) (x5 : Vec F S1x1024 .f32) (x6 : Vec F S1x1024 .f32) (x7 : Vec F S1x1024 .f32) (x8 : Vec F S1x1024 .f32) (x9 : Vec F S512x6144 .i32) (x10 : Vec F S512x1024 .i32) (x11 : Vec F S1024x1024 .i32) (x12 : Vec F S1x8x3072 .f32) (x13 : Vec F S4x8x128x128 .f32)

/-- The states a first point loads. -/
def stA : States F :=
  (fun b h => (![
    ![Gen.kernelRun0_A.sl.v393 c arg5 harg5 arg17 x3,
      Gen.kernelRun0_A.sl.v560 c arg2 harg2 arg3 harg3 arg4 harg4 arg5 harg5 arg7 harg7 arg11 harg11 arg17 x0 x1 x2 x3 x5 x9,
      Gen.kernelRun0_A.sl.v736 c arg2 harg2 arg3 harg3 arg4 harg4 arg5 harg5 arg7 harg7 arg11 harg11 arg17 x0 x1 x2 x3 x5 x9,
      Gen.kernelRun0_A.sl.v903 c arg2 harg2 arg3 harg3 arg4 harg4 arg5 harg5 arg7 harg7 arg11 harg11 arg17 x0 x1 x2 x3 x5 x9,
      Gen.kernelRun0_A.sl.v1107 c arg2 harg2 arg3 harg3 arg4 harg4 arg5 harg5 arg7 harg7 arg11 harg11 arg17 x0 x1 x2 x3 x5 x9,
      Gen.kernelRun0_A.sl.v1274 c arg2 harg2 arg3 harg3 arg4 harg4 arg5 harg5 arg7 harg7 arg11 harg11 arg17 x0 x1 x2 x3 x5 x9,
      Gen.kernelRun0_A.sl.v1745 c arg2 harg2 arg3 harg3 arg4 harg4 arg5 harg5 arg7 harg7 arg11 harg11 arg17 x0 x1 x2 x3 x5 x9,
      Gen.kernelRun0_A.sl.v1912 c arg2 harg2 arg3 harg3 arg4 harg4 arg5 harg5 arg7 harg7 arg11 harg11 arg17 x0 x1 x2 x3 x5 x9],
    ![Gen.kernelRun0_A.sl.v430 c arg2 harg2 arg3 harg3 arg4 harg4 arg5 harg5 arg7 harg7 arg11 harg11 arg17 x0 x1 x2 x3 x5 x9,
      Gen.kernelRun0_A.sl.v597 c arg2 harg2 arg3 harg3 arg4 harg4 arg5 harg5 arg7 harg7 arg11 harg11 arg17 x0 x1 x2 x3 x5 x9,
      Gen.kernelRun0_A.sl.v773 c arg2 harg2 arg3 harg3 arg4 harg4 arg5 harg5 arg7 harg7 arg11 harg11 arg17 x0 x1 x2 x3 x5 x9,
      Gen.kernelRun0_A.sl.v940 c arg2 harg2 arg3 harg3 arg4 harg4 arg5 harg5 arg7 harg7 arg11 harg11 arg17 x0 x1 x2 x3 x5 x9,
      Gen.kernelRun0_A.sl.v1144 c arg2 harg2 arg3 harg3 arg4 harg4 arg5 harg5 arg7 harg7 arg11 harg11 arg17 x0 x1 x2 x3 x5 x9,
      Gen.kernelRun0_A.sl.v1311 c arg2 harg2 arg3 harg3 arg4 harg4 arg5 harg5 arg7 harg7 arg11 harg11 arg17 x0 x1 x2 x3 x5 x9,
      Gen.kernelRun0_A.sl.v1782 c arg2 harg2 arg3 harg3 arg4 harg4 arg5 harg5 arg7 harg7 arg11 harg11 arg17 x0 x1 x2 x3 x5 x9,
      Gen.kernelRun0_A.sl.v1952 c arg2 harg2 arg3 harg3 arg4 harg4 arg5 harg5 arg7 harg7 arg11 harg11 arg17 x0 x1 x2 x3 x5 x9],
    ![Gen.kernelRun0_A.sl.v467 c arg2 harg2 arg3 harg3 arg4 harg4 arg5 harg5 arg7 harg7 arg11 harg11 arg17 x0 x1 x2 x3 x5 x9,
      Gen.kernelRun0_A.sl.v634 c arg2 harg2 arg3 harg3 arg4 harg4 arg5 harg5 arg7 harg7 arg11 harg11 arg17 x0 x1 x2 x3 x5 x9,
      Gen.kernelRun0_A.sl.v810 c arg2 harg2 arg3 harg3 arg4 harg4 arg5 harg5 arg7 harg7 arg11 harg11 arg17 x0 x1 x2 x3 x5 x9,
      Gen.kernelRun0_A.sl.v977 c arg2 harg2 arg3 harg3 arg4 harg4 arg5 harg5 arg7 harg7 arg11 harg11 arg17 x0 x1 x2 x3 x5 x9,
      Gen.kernelRun0_A.sl.v1181 c arg2 harg2 arg3 harg3 arg4 harg4 arg5 harg5 arg7 harg7 arg11 harg11 arg17 x0 x1 x2 x3 x5 x9,
      Gen.kernelRun0_A.sl.v1348 c arg2 harg2 arg3 harg3 arg4 harg4 arg5 harg5 arg7 harg7 arg11 harg11 arg17 x0 x1 x2 x3 x5 x9,
      Gen.kernelRun0_A.sl.v1819 c arg2 harg2 arg3 harg3 arg4 harg4 arg5 harg5 arg7 harg7 arg11 harg11 arg17 x0 x1 x2 x3 x5 x9,
      Gen.kernelRun0_A.sl.v1992 c arg2 harg2 arg3 harg3 arg4 harg4 arg5 harg5 arg7 harg7 arg11 harg11 arg17 x0 x1 x2 x3 x5 x9],
    ![Gen.kernelRun0_A.sl.v504 c arg2 harg2 arg3 harg3 arg4 harg4 arg5 harg5 arg7 harg7 arg11 harg11 arg17 x0 x1 x2 x3 x5 x9,
      Gen.kernelRun0_A.sl.v671 c arg2 harg2 arg3 harg3 arg4 harg4 arg5 harg5 arg7 harg7 arg11 harg11 arg17 x0 x1 x2 x3 x5 x9,
      Gen.kernelRun0_A.sl.v847 c arg2 harg2 arg3 harg3 arg4 harg4 arg5 harg5 arg7 harg7 arg11 harg11 arg17 x0 x1 x2 x3 x5 x9,
      Gen.kernelRun0_A.sl.v1014 c arg2 harg2 arg3 harg3 arg4 harg4 arg5 harg5 arg7 harg7 arg11 harg11 arg17 x0 x1 x2 x3 x5 x9,
      Gen.kernelRun0_A.sl.v1218 c arg2 harg2 arg3 harg3 arg4 harg4 arg5 harg5 arg7 harg7 arg11 harg11 arg17 x0 x1 x2 x3 x5 x9,
      Gen.kernelRun0_A.sl.v1385 c arg2 harg2 arg3 harg3 arg4 harg4 arg5 harg5 arg7 harg7 arg11 harg11 arg17 x0 x1 x2 x3 x5 x9,
      Gen.kernelRun0_A.sl.v1856 c arg2 harg2 arg3 harg3 arg4 harg4 arg5 harg5 arg7 harg7 arg11 harg11 arg17 x0 x1 x2 x3 x5 x9,
      Gen.kernelRun0_A.sl.v2032 c arg2 harg2 arg3 harg3 arg4 harg4 arg5 harg5 arg7 harg7 arg11 harg11 arg17 x0 x1 x2 x3 x5 x9]] : Fin 4 → Fin 8 → Vec F S1x1x128x128 .f32) b h)

/-- The recent pool rows a first point loads. -/
def hsA : Hists F :=
  (fun b g => (![
    ![Gen.kernelRun0_A.sl.v1434 c arg6 harg6 arg21 x4,
      Gen.kernelRun0_A.sl.v1491 c arg2 harg2 arg6 harg6 arg7 harg7 arg11 harg11 arg21 x0 x4 x5 x9,
      Gen.kernelRun0_A.sl.v1556 c arg2 harg2 arg6 harg6 arg7 harg7 arg11 harg11 arg21 x0 x4 x5 x9,
      Gen.kernelRun0_A.sl.v1629 c arg2 harg2 arg6 harg6 arg7 harg7 arg11 harg11 arg21 x0 x4 x5 x9],
    ![Gen.kernelRun0_A.sl.v1448 c arg2 harg2 arg6 harg6 arg7 harg7 arg11 harg11 arg21 x0 x4 x5 x9,
      Gen.kernelRun0_A.sl.v1507 c arg2 harg2 arg6 harg6 arg7 harg7 arg11 harg11 arg21 x0 x4 x5 x9,
      Gen.kernelRun0_A.sl.v1574 c arg2 harg2 arg6 harg6 arg7 harg7 arg11 harg11 arg21 x0 x4 x5 x9,
      Gen.kernelRun0_A.sl.v1649 c arg2 harg2 arg6 harg6 arg7 harg7 arg11 harg11 arg21 x0 x4 x5 x9],
    ![Gen.kernelRun0_A.sl.v1462 c arg2 harg2 arg6 harg6 arg7 harg7 arg11 harg11 arg21 x0 x4 x5 x9,
      Gen.kernelRun0_A.sl.v1523 c arg2 harg2 arg6 harg6 arg7 harg7 arg11 harg11 arg21 x0 x4 x5 x9,
      Gen.kernelRun0_A.sl.v1592 c arg2 harg2 arg6 harg6 arg7 harg7 arg11 harg11 arg21 x0 x4 x5 x9,
      Gen.kernelRun0_A.sl.v1669 c arg2 harg2 arg6 harg6 arg7 harg7 arg11 harg11 arg21 x0 x4 x5 x9],
    ![Gen.kernelRun0_A.sl.v1476 c arg2 harg2 arg6 harg6 arg7 harg7 arg11 harg11 arg21 x0 x4 x5 x9,
      Gen.kernelRun0_A.sl.v1539 c arg2 harg2 arg6 harg6 arg7 harg7 arg11 harg11 arg21 x0 x4 x5 x9,
      Gen.kernelRun0_A.sl.v1610 c arg2 harg2 arg6 harg6 arg7 harg7 arg11 harg11 arg21 x0 x4 x5 x9,
      Gen.kernelRun0_A.sl.v1689 c arg2 harg2 arg6 harg6 arg7 harg7 arg11 harg11 arg21 x0 x4 x5 x9]] : Fin 4 → Fin 4 → Vec F S1x16x256 .f32) b g)

set_option maxHeartbeats 8000000 in
/-- The sample states stored. -/
theorem so_A : (Gen.kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 ).2.2.2.1 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).soL := by
  unfold Gen.kernelRun0_A
  exact Eq.refl _

set_option maxHeartbeats 8000000 in
/-- The prompt states stored. -/
theorem s_A : (Gen.kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 ).2.1 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).sL (stA c arg2 harg2 arg3 harg3 arg4 harg4 arg5 harg5 arg7 harg7 arg11 harg11 arg17 x0 x1 x2 x3 x5 x9) ++ sI arg5 harg5 x3 := by
  unfold Gen.kernelRun0_A
  exact Eq.refl _

set_option maxHeartbeats 8000000 in
/-- The pool rows kept. -/
theorem h_A : (Gen.kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 ).2.2.2.2.2.1 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).hL ++ hI arg6 harg6 x4 := by
  unfold Gen.kernelRun0_A
  exact Eq.refl _

end Cert.KernelIdeal
-- ==== Proof.CaseAy.lean ====
module

public import proofs.«01_k».proof.Proof.CaseA
public import proofs.«01_k».proof.Proof.Gen.KernelIdeal.Frame.RunA

/-! The output rows a first point of a sequence stores. -/

@[expose] public section

set_option maxRecDepth 16384

noncomputable section

namespace Cert.KernelIdeal

open Idealize.ShloMosaic Idealize.SL.Sem

variable {F : FTy → Type} [FloatOps F] [Named F] (c : Dev nD) (i : grid0.Coords)
  (arg2 : Memref sig .tc .vmem S4x128x1024 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S8x128x128 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x6144 .i32) (harg11 : arg11.IsWhole) (arg12 : Memref sig .tc .vmem S512x1024 .i32) (harg12 : arg12.IsWhole) (arg13 : Memref sig .tc .vmem S1024x1024 .i32) (harg13 : arg13.IsWhole) (arg14 : Memref sig .tc .vmem S1x8x3072 .f32) (harg14 : arg14.IsWhole) (arg15 : Memref sig .tc .vmem S4x8x128x128 .f32) (harg15 : arg15.IsWhole) (arg16 : Memref sig .tc .vmem S4x128x1024 .f32) (harg16 : arg16.IsWhole) (arg17 : Memref sig .tc .vmem S4x8x128x128 .f32) (harg17 : arg17.IsWhole) (arg18 : Memref sig .tc .vmem S4x15x1024 .f32) (harg18 : arg18.IsWhole) (arg19 : Memref sig .tc .vmem S4x8x128x128 .f32) (harg19 : arg19.IsWhole) (arg20 : Memref sig .tc .vmem S1x8x1024 .f32) (harg20 : arg20.IsWhole) (arg21 : Memref sig .tc .vmem S4x16x1024 .f32) (harg21 : arg21.IsWhole)
  (hc0 : Gen.cond0_0 i) (hc1 : ¬Gen.cond0_1 i)
  (x0 : Vec F S4x128x1024 .f32) (x1 : Vec F S128x128 .f32) (x2 : Vec F S128x128 .f32) (x3 : Vec F S8x128x128 .f32) (x4 : Vec F S16x1024 .f32) (x5 : Vec F S1x1024 .f32) (x6 : Vec F S1x1024 .f32) (x7 : Vec F S1x1024 .f32) (x8 : Vec F S1x1024 .f32) (x9 : Vec F S512x6144 .i32) (x10 : Vec F S512x1024 .i32) (x11 : Vec F S1024x1024 .i32) (x12 : Vec F S1x8x3072 .f32) (x13 : Vec F S4x8x128x128 .f32)

set_option maxHeartbeats 8000000 in
/-- The rows with the pool part of the output projection. -/
theorem acc_A : Gen.kernelRun0_A.sl.v2155 c arg2 harg2 arg6 harg6 arg7 harg7 arg8 harg8 arg11 harg11 arg13 harg13 arg21 x0 x4 x5 x6 x9 x11 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).acc (hsA c arg2 harg2 arg6 harg6 arg7 harg7 arg11 harg11 arg21 x0 x4 x5 x9) := by
  exact Eq.refl _

set_option maxHeartbeats 8000000 in
/-- The retention rows of batch 0. -/
theorem rb0_A : Gen.kernelRun0_A.sl.v2356 c arg2 harg2 arg3 harg3 arg4 harg4 arg5 harg5 arg7 harg7 arg9 harg9 arg11 harg11 arg17 x0 x1 x2 x3 x5 x7 x9 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 0 (stA c arg2 harg2 arg3 harg3 arg4 harg4 arg5 harg5 arg7 harg7 arg11 harg11 arg17 x0 x1 x2 x3 x5 x9) := by
  exact Eq.refl _

set_option maxHeartbeats 8000000 in
/-- The retention rows of batch 1. -/
theorem rb1_A : Gen.kernelRun0_A.sl.v2557 c arg2 harg2 arg3 harg3 arg4 harg4 arg5 harg5 arg7 harg7 arg9 harg9 arg11 harg11 arg17 x0 x1 x2 x3 x5 x7 x9 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 1 (stA c arg2 harg2 arg3 harg3 arg4 harg4 arg5 harg5 arg7 harg7 arg11 harg11 arg17 x0 x1 x2 x3 x5 x9) := by
  exact Eq.refl _

set_option maxHeartbeats 8000000 in
/-- The retention rows of batch 2. -/
theorem rb2_A : Gen.kernelRun0_A.sl.v2779 c arg2 harg2 arg3 harg3 arg4 harg4 arg5 harg5 arg7 harg7 arg9 harg9 arg11 harg11 arg17 x0 x1 x2 x3 x5 x7 x9 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 2 (stA c arg2 harg2 arg3 harg3 arg4 harg4 arg5 harg5 arg7 harg7 arg11 harg11 arg17 x0 x1 x2 x3 x5 x9) := by
  exact Eq.refl _

set_option maxHeartbeats 8000000 in
/-- The retention rows of batch 3. -/
theorem rb3_A : Gen.kernelRun0_A.sl.v2980 c arg2 harg2 arg3 harg3 arg4 harg4 arg5 harg5 arg7 harg7 arg9 harg9 arg11 harg11 arg17 x0 x1 x2 x3 x5 x7 x9 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 3 (stA c arg2 harg2 arg3 harg3 arg4 harg4 arg5 harg5 arg7 harg7 arg11 harg11 arg17 x0 x1 x2 x3 x5 x9) := by
  exact Eq.refl _

set_option maxHeartbeats 8000000 in
/-- The output rows of two batches. -/
theorem y0_A : Gen.kernelRun0_A.sl.v2577 c arg2 harg2 arg3 harg3 arg4 harg4 arg5 harg5 arg6 harg6 arg7 harg7 arg8 harg8 arg9 harg9 arg10 harg10 arg11 harg11 arg13 harg13 arg17 arg21 x0 x1 x2 x3 x4 x5 x6 x7 x8 x9 x11 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).yT 0 (stA c arg2 harg2 arg3 harg3 arg4 harg4 arg5 harg5 arg7 harg7 arg11 harg11 arg17 x0 x1 x2 x3 x5 x9) (hsA c arg2 harg2 arg6 harg6 arg7 harg7 arg11 harg11 arg21 x0 x4 x5 x9) := by
  show _ = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).nrm ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).pre 0 ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).acc (hsA c arg2 harg2 arg6 harg6 arg7 harg7 arg11 harg11 arg21 x0 x4 x5 x9)) ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 0 (stA c arg2 harg2 arg3 harg3 arg4 harg4 arg5 harg5 arg7 harg7 arg11 harg11 arg17 x0 x1 x2 x3 x5 x9)) ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 1 (stA c arg2 harg2 arg3 harg3 arg4 harg4 arg5 harg5 arg7 harg7 arg11 harg11 arg17 x0 x1 x2 x3 x5 x9)))
  rw [← acc_A, ← rb0_A, ← rb1_A]
  exact Eq.refl _

set_option maxHeartbeats 8000000 in
/-- The output rows of two batches. -/
theorem y1_A : Gen.kernelRun0_A.sl.v3000 c arg2 harg2 arg3 harg3 arg4 harg4 arg5 harg5 arg6 harg6 arg7 harg7 arg8 harg8 arg9 harg9 arg10 harg10 arg11 harg11 arg13 harg13 arg17 arg21 x0 x1 x2 x3 x4 x5 x6 x7 x8 x9 x11 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).yT 1 (stA c arg2 harg2 arg3 harg3 arg4 harg4 arg5 harg5 arg7 harg7 arg11 harg11 arg17 x0 x1 x2 x3 x5 x9) (hsA c arg2 harg2 arg6 harg6 arg7 harg7 arg11 harg11 arg21 x0 x4 x5 x9) := by
  show _ = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).nrm ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).pre 1 ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).acc (hsA c arg2 harg2 arg6 harg6 arg7 harg7 arg11 harg11 arg21 x0 x4 x5 x9)) ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 2 (stA c arg2 harg2 arg3 harg3 arg4 harg4 arg5 harg5 arg7 harg7 arg11 harg11 arg17 x0 x1 x2 x3 x5 x9)) ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 3 (stA c arg2 harg2 arg3 harg3 arg4 harg4 arg5 harg5 arg7 harg7 arg11 harg11 arg17 x0 x1 x2 x3 x5 x9)))
  rw [← acc_A, ← rb2_A, ← rb3_A]
  exact Eq.refl _

/-- The output rows stored. -/
theorem y_A : (Gen.kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 ).1 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).yL (stA c arg2 harg2 arg3 harg3 arg4 harg4 arg5 harg5 arg7 harg7 arg11 harg11 arg17 x0 x1 x2 x3 x5 x9) (hsA c arg2 harg2 arg6 harg6 arg7 harg7 arg11 harg11 arg21 x0 x4 x5 x9) := by
  show _ = ([⟨rY 1, (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).yT 1 (stA c arg2 harg2 arg3 harg3 arg4 harg4 arg5 harg5 arg7 harg7 arg11 harg11 arg17 x0 x1 x2 x3 x5 x9) (hsA c arg2 harg2 arg6 harg6 arg7 harg7 arg11 harg11 arg21 x0 x4 x5 x9)⟩, ⟨rY 0, (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).yT 0 (stA c arg2 harg2 arg3 harg3 arg4 harg4 arg5 harg5 arg7 harg7 arg11 harg11 arg17 x0 x1 x2 x3 x5 x9) (hsA c arg2 harg2 arg6 harg6 arg7 harg7 arg11 harg11 arg21 x0 x4 x5 x9)⟩] : List (View.Piece (Elt F) S4x128x1024 .f32))
  rw [← y0_A, ← y1_A]
  unfold Gen.kernelRun0_A
  exact Eq.refl _

end Cert.KernelIdeal
-- ==== Proof.CaseB.lean ====
module

public import proofs.«01_k».proof.Proof.Pieces
public import proofs.«01_k».proof.Proof.Gen.KernelIdeal.Frame.RunB

/-! The tiles a middle point of a sequence stores, as lists: the sample states, the prompt states, the kept pool rows. -/

@[expose] public section

set_option maxRecDepth 16384

noncomputable section

namespace Cert.KernelIdeal

open Idealize.ShloMosaic Idealize.SL.Sem

variable {F : FTy → Type} [FloatOps F] [Named F] (c : Dev nD) (i : grid0.Coords)
  (arg2 : Memref sig .tc .vmem S4x128x1024 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S8x128x128 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x6144 .i32) (harg11 : arg11.IsWhole) (arg12 : Memref sig .tc .vmem S512x1024 .i32) (harg12 : arg12.IsWhole) (arg13 : Memref sig .tc .vmem S1024x1024 .i32) (harg13 : arg13.IsWhole) (arg14 : Memref sig .tc .vmem S1x8x3072 .f32) (harg14 : arg14.IsWhole) (arg15 : Memref sig .tc .vmem S4x8x128x128 .f32) (harg15 : arg15.IsWhole) (arg16 : Memref sig .tc .vmem S4x128x1024 .f32) (harg16 : arg16.IsWhole) (arg17 : Memref sig .tc .vmem S4x8x128x128 .f32) (harg17 : arg17.IsWhole) (arg18 : Memref sig .tc .vmem S4x15x1024 .f32) (harg18 : arg18.IsWhole) (arg19 : Memref sig .tc .vmem S4x8x128x128 .f32) (harg19 : arg19.IsWhole) (arg20 : Memref sig .tc .vmem S1x8x1024 .f32) (harg20 : arg20.IsWhole) (arg21 : Memref sig .tc .vmem S4x16x1024 .f32) (harg21 : arg21.IsWhole)
  (hc0 : ¬Gen.cond0_0 i) (hc1 : ¬Gen.cond0_1 i)
  (x0 : Vec F S4x128x1024 .f32) (x1 : Vec F S128x128 .f32) (x2 : Vec F S128x128 .f32) (x3 : Vec F S8x128x128 .f32) (x4 : Vec F S16x1024 .f32) (x5 : Vec F S1x1024 .f32) (x6 : Vec F S1x1024 .f32) (x7 : Vec F S1x1024 .f32) (x8 : Vec F S1x1024 .f32) (x9 : Vec F S512x6144 .i32) (x10 : Vec F S512x1024 .i32) (x11 : Vec F S1024x1024 .i32) (x12 : Vec F S1x8x3072 .f32) (x13 : Vec F S4x8x128x128 .f32) (xo15 : Vec F S4x8x128x128 .f32) (xs0 : Vec F S4x16x1024 .f32)

set_option maxHeartbeats 8000000 in
/-- The sample states stored. -/
theorem so_B : (Gen.kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo15 xs0).2.2.2.1 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).soL := by
  unfold Gen.kernelRun0_B
  exact Eq.refl _

set_option maxHeartbeats 8000000 in
/-- The prompt states stored. -/
theorem s_B : (Gen.kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo15 xs0).2.1 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).sL (stOf arg17 harg17 xo15) := by
  unfold Gen.kernelRun0_B
  exact Eq.refl _

set_option maxHeartbeats 8000000 in
/-- The pool rows kept. -/
theorem h_B : (Gen.kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo15 xs0).2.2.2.2.2.1 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).hL := by
  unfold Gen.kernelRun0_B
  exact Eq.refl _

end Cert.KernelIdeal
-- ==== Proof.CaseBy.lean ====
module

public import proofs.«01_k».proof.Proof.Pieces
public import proofs.«01_k».proof.Proof.Gen.KernelIdeal.Frame.RunB

/-! The output rows a middle point of a sequence stores. -/

@[expose] public section

set_option maxRecDepth 16384

noncomputable section

namespace Cert.KernelIdeal

open Idealize.ShloMosaic Idealize.SL.Sem

variable {F : FTy → Type} [FloatOps F] [Named F] (c : Dev nD) (i : grid0.Coords)
  (arg2 : Memref sig .tc .vmem S4x128x1024 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S8x128x128 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x6144 .i32) (harg11 : arg11.IsWhole) (arg12 : Memref sig .tc .vmem S512x1024 .i32) (harg12 : arg12.IsWhole) (arg13 : Memref sig .tc .vmem S1024x1024 .i32) (harg13 : arg13.IsWhole) (arg14 : Memref sig .tc .vmem S1x8x3072 .f32) (harg14 : arg14.IsWhole) (arg15 : Memref sig .tc .vmem S4x8x128x128 .f32) (harg15 : arg15.IsWhole) (arg16 : Memref sig .tc .vmem S4x128x1024 .f32) (harg16 : arg16.IsWhole) (arg17 : Memref sig .tc .vmem S4x8x128x128 .f32) (harg17 : arg17.IsWhole) (arg18 : Memref sig .tc .vmem S4x15x1024 .f32) (harg18 : arg18.IsWhole) (arg19 : Memref sig .tc .vmem S4x8x128x128 .f32) (harg19 : arg19.IsWhole) (arg20 : Memref sig .tc .vmem S1x8x1024 .f32) (harg20 : arg20.IsWhole) (arg21 : Memref sig .tc .vmem S4x16x1024 .f32) (harg21 : arg21.IsWhole)
  (hc0 : ¬Gen.cond0_0 i) (hc1 : ¬Gen.cond0_1 i)
  (x0 : Vec F S4x128x1024 .f32) (x1 : Vec F S128x128 .f32) (x2 : Vec F S128x128 .f32) (x3 : Vec F S8x128x128 .f32) (x4 : Vec F S16x1024 .f32) (x5 : Vec F S1x1024 .f32) (x6 : Vec F S1x1024 .f32) (x7 : Vec F S1x1024 .f32) (x8 : Vec F S1x1024 .f32) (x9 : Vec F S512x6144 .i32) (x10 : Vec F S512x1024 .i32) (x11 : Vec F S1024x1024 .i32) (x12 : Vec F S1x8x3072 .f32) (x13 : Vec F S4x8x128x128 .f32) (xo15 : Vec F S4x8x128x128 .f32) (xs0 : Vec F S4x16x1024 .f32)

set_option maxHeartbeats 8000000 in
/-- The rows with the pool part of the output projection. -/
theorem acc_B : Gen.kernelRun0_B.sl.v2155 c arg2 harg2 arg7 harg7 arg8 harg8 arg11 harg11 arg13 harg13 arg21 harg21 x0 x5 x6 x9 x11 xs0 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).acc (hsOf arg21 harg21 xs0) := by
  exact Eq.refl _

set_option maxHeartbeats 8000000 in
/-- The retention rows of batch 0. -/
theorem rb0_B : Gen.kernelRun0_B.sl.v2356 c arg2 harg2 arg3 harg3 arg4 harg4 arg7 harg7 arg9 harg9 arg11 harg11 arg17 harg17 x0 x1 x2 x5 x7 x9 xo15 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 0 (stOf arg17 harg17 xo15) := by
  exact Eq.refl _

set_option maxHeartbeats 8000000 in
/-- The retention rows of batch 1. -/
theorem rb1_B : Gen.kernelRun0_B.sl.v2557 c arg2 harg2 arg3 harg3 arg4 harg4 arg7 harg7 arg9 harg9 arg11 harg11 arg17 harg17 x0 x1 x2 x5 x7 x9 xo15 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 1 (stOf arg17 harg17 xo15) := by
  exact Eq.refl _

set_option maxHeartbeats 8000000 in
/-- The retention rows of batch 2. -/
theorem rb2_B : Gen.kernelRun0_B.sl.v2779 c arg2 harg2 arg3 harg3 arg4 harg4 arg7 harg7 arg9 harg9 arg11 harg11 arg17 harg17 x0 x1 x2 x5 x7 x9 xo15 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 2 (stOf arg17 harg17 xo15) := by
  exact Eq.refl _

set_option maxHeartbeats 8000000 in
/-- The retention rows of batch 3. -/
theorem rb3_B : Gen.kernelRun0_B.sl.v2980 c arg2 harg2 arg3 harg3 arg4 harg4 arg7 harg7 arg9 harg9 arg11 harg11 arg17 harg17 x0 x1 x2 x5 x7 x9 xo15 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 3 (stOf arg17 harg17 xo15) := by
  exact Eq.refl _

set_option maxHeartbeats 8000000 in
/-- The output rows of two batches. -/
theorem y0_B : Gen.kernelRun0_B.sl.v2577 c arg2 harg2 arg3 harg3 arg4 harg4 arg7 harg7 arg8 harg8 arg9 harg9 arg10 harg10 arg11 harg11 arg13 harg13 arg17 harg17 arg21 harg21 x0 x1 x2 x5 x6 x7 x8 x9 x11 xo15 xs0 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).yT 0 (stOf arg17 harg17 xo15) (hsOf arg21 harg21 xs0) := by
  show _ = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).nrm ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).pre 0 ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).acc (hsOf arg21 harg21 xs0)) ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 0 (stOf arg17 harg17 xo15)) ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 1 (stOf arg17 harg17 xo15)))
  rw [← acc_B, ← rb0_B, ← rb1_B]
  exact Eq.refl _

set_option maxHeartbeats 8000000 in
/-- The output rows of two batches. -/
theorem y1_B : Gen.kernelRun0_B.sl.v3000 c arg2 harg2 arg3 harg3 arg4 harg4 arg7 harg7 arg8 harg8 arg9 harg9 arg10 harg10 arg11 harg11 arg13 harg13 arg17 harg17 arg21 harg21 x0 x1 x2 x5 x6 x7 x8 x9 x11 xo15 xs0 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).yT 1 (stOf arg17 harg17 xo15) (hsOf arg21 harg21 xs0) := by
  show _ = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).nrm ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).pre 1 ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).acc (hsOf arg21 harg21 xs0)) ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 2 (stOf arg17 harg17 xo15)) ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 3 (stOf arg17 harg17 xo15)))
  rw [← acc_B, ← rb2_B, ← rb3_B]
  exact Eq.refl _

/-- The output rows stored. -/
theorem y_B : (Gen.kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo15 xs0).1 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).yL (stOf arg17 harg17 xo15) (hsOf arg21 harg21 xs0) := by
  show _ = ([⟨rY 1, (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).yT 1 (stOf arg17 harg17 xo15) (hsOf arg21 harg21 xs0)⟩, ⟨rY 0, (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).yT 0 (stOf arg17 harg17 xo15) (hsOf arg21 harg21 xs0)⟩] : List (View.Piece (Elt F) S4x128x1024 .f32))
  rw [← y0_B, ← y1_B]
  unfold Gen.kernelRun0_B
  exact Eq.refl _

end Cert.KernelIdeal
-- ==== Proof.CaseC.lean ====
module

public import proofs.«01_k».proof.Proof.Pieces
public import proofs.«01_k».proof.Proof.Gen.KernelIdeal.Frame.RunC

/-! The tiles a last point of a sequence stores, as lists: the sample states, the prompt states, the kept pool rows. -/

@[expose] public section

set_option maxRecDepth 16384

noncomputable section

namespace Cert.KernelIdeal

open Idealize.ShloMosaic Idealize.SL.Sem

variable {F : FTy → Type} [FloatOps F] [Named F] (c : Dev nD) (i : grid0.Coords)
  (arg2 : Memref sig .tc .vmem S4x128x1024 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S8x128x128 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x6144 .i32) (harg11 : arg11.IsWhole) (arg12 : Memref sig .tc .vmem S512x1024 .i32) (harg12 : arg12.IsWhole) (arg13 : Memref sig .tc .vmem S1024x1024 .i32) (harg13 : arg13.IsWhole) (arg14 : Memref sig .tc .vmem S1x8x3072 .f32) (harg14 : arg14.IsWhole) (arg15 : Memref sig .tc .vmem S4x8x128x128 .f32) (harg15 : arg15.IsWhole) (arg16 : Memref sig .tc .vmem S4x128x1024 .f32) (harg16 : arg16.IsWhole) (arg17 : Memref sig .tc .vmem S4x8x128x128 .f32) (harg17 : arg17.IsWhole) (arg18 : Memref sig .tc .vmem S4x15x1024 .f32) (harg18 : arg18.IsWhole) (arg19 : Memref sig .tc .vmem S4x8x128x128 .f32) (harg19 : arg19.IsWhole) (arg20 : Memref sig .tc .vmem S1x8x1024 .f32) (harg20 : arg20.IsWhole) (arg21 : Memref sig .tc .vmem S4x16x1024 .f32) (harg21 : arg21.IsWhole)
  (hc0 : ¬Gen.cond0_0 i) (hc1 : Gen.cond0_1 i)
  (x0 : Vec F S4x128x1024 .f32) (x1 : Vec F S128x128 .f32) (x2 : Vec F S128x128 .f32) (x3 : Vec F S8x128x128 .f32) (x4 : Vec F S16x1024 .f32) (x5 : Vec F S1x1024 .f32) (x6 : Vec F S1x1024 .f32) (x7 : Vec F S1x1024 .f32) (x8 : Vec F S1x1024 .f32) (x9 : Vec F S512x6144 .i32) (x10 : Vec F S512x1024 .i32) (x11 : Vec F S1024x1024 .i32) (x12 : Vec F S1x8x3072 .f32) (x13 : Vec F S4x8x128x128 .f32) (xo15 : Vec F S4x8x128x128 .f32) (xs0 : Vec F S4x16x1024 .f32)

set_option maxHeartbeats 8000000 in
/-- The sample states stored. -/
theorem so_C : (Gen.kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo15 xs0).2.2.2.1 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).soL := by
  unfold Gen.kernelRun0_C
  exact Eq.refl _

set_option maxHeartbeats 8000000 in
/-- The prompt states stored. -/
theorem s_C : (Gen.kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo15 xs0).2.1 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).sL (stOf arg17 harg17 xo15) := by
  unfold Gen.kernelRun0_C
  exact Eq.refl _

set_option maxHeartbeats 8000000 in
/-- The pool rows kept. -/
theorem h_C : (Gen.kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo15 xs0).2.2.2.2.2.1 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).hL := by
  unfold Gen.kernelRun0_C
  exact Eq.refl _

set_option maxHeartbeats 8000000 in
/-- The last pool rows stored. -/
theorem pb_C : (Gen.kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo15 xs0).2.2.1 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).pbL := by
  unfold Gen.kernelRun0_C
  exact Eq.refl _

end Cert.KernelIdeal
-- ==== Proof.CaseCy.lean ====
module

public import proofs.«01_k».proof.Proof.Pieces
public import proofs.«01_k».proof.Proof.Gen.KernelIdeal.Frame.RunC

/-! The output rows a last point of a sequence stores. -/

@[expose] public section

set_option maxRecDepth 16384

noncomputable section

namespace Cert.KernelIdeal

open Idealize.ShloMosaic Idealize.SL.Sem

variable {F : FTy → Type} [FloatOps F] [Named F] (c : Dev nD) (i : grid0.Coords)
  (arg2 : Memref sig .tc .vmem S4x128x1024 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S8x128x128 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x6144 .i32) (harg11 : arg11.IsWhole) (arg12 : Memref sig .tc .vmem S512x1024 .i32) (harg12 : arg12.IsWhole) (arg13 : Memref sig .tc .vmem S1024x1024 .i32) (harg13 : arg13.IsWhole) (arg14 : Memref sig .tc .vmem S1x8x3072 .f32) (harg14 : arg14.IsWhole) (arg15 : Memref sig .tc .vmem S4x8x128x128 .f32) (harg15 : arg15.IsWhole) (arg16 : Memref sig .tc .vmem S4x128x1024 .f32) (harg16 : arg16.IsWhole) (arg17 : Memref sig .tc .vmem S4x8x128x128 .f32) (harg17 : arg17.IsWhole) (arg18 : Memref sig .tc .vmem S4x15x1024 .f32) (harg18 : arg18.IsWhole) (arg19 : Memref sig .tc .vmem S4x8x128x128 .f32) (harg19 : arg19.IsWhole) (arg20 : Memref sig .tc .vmem S1x8x1024 .f32) (harg20 : arg20.IsWhole) (arg21 : Memref sig .tc .vmem S4x16x1024 .f32) (harg21 : arg21.IsWhole)
  (hc0 : ¬Gen.cond0_0 i) (hc1 : Gen.cond0_1 i)
  (x0 : Vec F S4x128x1024 .f32) (x1 : Vec F S128x128 .f32) (x2 : Vec F S128x128 .f32) (x3 : Vec F S8x128x128 .f32) (x4 : Vec F S16x1024 .f32) (x5 : Vec F S1x1024 .f32) (x6 : Vec F S1x1024 .f32) (x7 : Vec F S1x1024 .f32) (x8 : Vec F S1x1024 .f32) (x9 : Vec F S512x6144 .i32) (x10 : Vec F S512x1024 .i32) (x11 : Vec F S1024x1024 .i32) (x12 : Vec F S1x8x3072 .f32) (x13 : Vec F S4x8x128x128 .f32) (xo15 : Vec F S4x8x128x128 .f32) (xs0 : Vec F S4x16x1024 .f32)

set_option maxHeartbeats 8000000 in
/-- The rows with the pool part of the output projection. -/
theorem acc_C : Gen.kernelRun0_C.sl.v2155 c arg2 harg2 arg7 harg7 arg8 harg8 arg11 harg11 arg13 harg13 arg21 harg21 x0 x5 x6 x9 x11 xs0 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).acc (hsOf arg21 harg21 xs0) := by
  exact Eq.refl _

set_option maxHeartbeats 8000000 in
/-- The retention rows of batch 0. -/
theorem rb0_C : Gen.kernelRun0_C.sl.v2356 c arg2 harg2 arg3 harg3 arg4 harg4 arg7 harg7 arg9 harg9 arg11 harg11 arg17 harg17 x0 x1 x2 x5 x7 x9 xo15 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 0 (stOf arg17 harg17 xo15) := by
  exact Eq.refl _

set_option maxHeartbeats 8000000 in
/-- The retention rows of batch 1. -/
theorem rb1_C : Gen.kernelRun0_C.sl.v2557 c arg2 harg2 arg3 harg3 arg4 harg4 arg7 harg7 arg9 harg9 arg11 harg11 arg17 harg17 x0 x1 x2 x5 x7 x9 xo15 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 1 (stOf arg17 harg17 xo15) := by
  exact Eq.refl _

set_option maxHeartbeats 8000000 in
/-- The retention rows of batch 2. -/
theorem rb2_C : Gen.kernelRun0_C.sl.v2779 c arg2 harg2 arg3 harg3 arg4 harg4 arg7 harg7 arg9 harg9 arg11 harg11 arg17 harg17 x0 x1 x2 x5 x7 x9 xo15 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 2 (stOf arg17 harg17 xo15) := by
  exact Eq.refl _

set_option maxHeartbeats 8000000 in
/-- The retention rows of batch 3. -/
theorem rb3_C : Gen.kernelRun0_C.sl.v2980 c arg2 harg2 arg3 harg3 arg4 harg4 arg7 harg7 arg9 harg9 arg11 harg11 arg17 harg17 x0 x1 x2 x5 x7 x9 xo15 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 3 (stOf arg17 harg17 xo15) := by
  exact Eq.refl _

set_option maxHeartbeats 8000000 in
/-- The output rows of two batches. -/
theorem y0_C : Gen.kernelRun0_C.sl.v2577 c arg2 harg2 arg3 harg3 arg4 harg4 arg7 harg7 arg8 harg8 arg9 harg9 arg10 harg10 arg11 harg11 arg13 harg13 arg17 harg17 arg21 harg21 x0 x1 x2 x5 x6 x7 x8 x9 x11 xo15 xs0 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).yT 0 (stOf arg17 harg17 xo15) (hsOf arg21 harg21 xs0) := by
  show _ = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).nrm ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).pre 0 ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).acc (hsOf arg21 harg21 xs0)) ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 0 (stOf arg17 harg17 xo15)) ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 1 (stOf arg17 harg17 xo15)))
  rw [← acc_C, ← rb0_C, ← rb1_C]
  exact Eq.refl _

set_option maxHeartbeats 8000000 in
/-- The output rows of two batches. -/
theorem y1_C : Gen.kernelRun0_C.sl.v3000 c arg2 harg2 arg3 harg3 arg4 harg4 arg7 harg7 arg8 harg8 arg9 harg9 arg10 harg10 arg11 harg11 arg13 harg13 arg17 harg17 arg21 harg21 x0 x1 x2 x5 x6 x7 x8 x9 x11 xo15 xs0 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).yT 1 (stOf arg17 harg17 xo15) (hsOf arg21 harg21 xs0) := by
  show _ = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).nrm ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).pre 1 ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).acc (hsOf arg21 harg21 xs0)) ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 2 (stOf arg17 harg17 xo15)) ((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).rb 3 (stOf arg17 harg17 xo15)))
  rw [← acc_C, ← rb2_C, ← rb3_C]
  exact Eq.refl _

/-- The output rows stored. -/
theorem y_C : (Gen.kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xo15 xs0).1 = (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).yL (stOf arg17 harg17 xo15) (hsOf arg21 harg21 xs0) := by
  show _ = ([⟨rY 1, (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).yT 1 (stOf arg17 harg17 xo15) (hsOf arg21 harg21 xs0)⟩, ⟨rY 0, (ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).yT 0 (stOf arg17 harg17 xo15) (hsOf arg21 harg21 xs0)⟩] : List (View.Piece (Elt F) S4x128x1024 .f32))
  rw [← y0_C, ← y1_C]
  unfold Gen.kernelRun0_C
  exact Eq.refl _

end Cert.KernelIdeal
-- ==== Proof.Point.lean ====
module

public import proofs.«01_k».proof.Proof.CaseA
public import proofs.«01_k».proof.Proof.CaseAy
public import proofs.«01_k».proof.Proof.CaseB
public import proofs.«01_k».proof.Proof.CaseBy
public import proofs.«01_k».proof.Proof.CaseC
public import proofs.«01_k».proof.Proof.CaseCy
public import proofs.«01_k».proof.Proof.CaseBy
public import proofs.«01_k».proof.Proof.CaseCy
public import proofs.«01_k».proof.Proof.Gen.KernelIdeal.Frame

/-! What each grid point leaves in its windows, as the tiles it stores. -/

@[expose] public section

set_option maxRecDepth 16384

noncomputable section

namespace Cert.KernelIdeal

open Idealize.ShloMosaic Idealize.SL Idealize.SL.Sem

variable {F : FTy → Type} [FloatOps F] [Named F] (m : (ℓ : Loc nD τ sig) → Buf (Elt F) ℓ) (c : Dev nD) (t : Fin cfg0.N)

/-- What a point loads. -/
def ld : Loads F := ofWindows (Gen.ms0_0 t) (Gen.hs0_0 t) (Gen.ms0_1 t) (Gen.hs0_1 t) (Gen.ms0_2 t) (Gen.hs0_2 t) (Gen.ms0_5 t) (Gen.hs0_5 t) (Gen.ms0_6 t) (Gen.hs0_6 t) (Gen.ms0_7 t) (Gen.hs0_7 t) (Gen.ms0_8 t) (Gen.hs0_8 t) (Gen.ms0_9 t) (Gen.hs0_9 t) (Gen.ms0_10 t) (Gen.hs0_10 t) (Gen.ms0_11 t) (Gen.hs0_11 t) (Gen.ms0_12 t) (Gen.hs0_12 t) (Gen.ms0_13 t) (Gen.hs0_13 t) (Gen.iblk m c 0 t) (Gen.iblk m c 1 t) (Gen.iblk m c 2 t) (Gen.iblk m c 5 t) (Gen.iblk m c 6 t) (Gen.iblk m c 7 t) (Gen.iblk m c 8 t) (Gen.iblk m c 9 t) (Gen.iblk m c 10 t) (Gen.iblk m c 11 t) (Gen.iblk m c 12 t) (Gen.iblk m c 13 t)

/-- The states a sequence's first point loads. -/
def st0 : States F := stA c (Gen.ms0_0 t) (Gen.hs0_0 t) (Gen.ms0_1 t) (Gen.hs0_1 t) (Gen.ms0_2 t) (Gen.hs0_2 t) (Gen.ms0_3 t) (Gen.hs0_3 t) (Gen.ms0_5 t) (Gen.hs0_5 t) (Gen.ms0_9 t) (Gen.hs0_9 t) (Gen.ms0_15 t) (Gen.iblk m c 0 t) (Gen.iblk m c 1 t) (Gen.iblk m c 2 t) (Gen.iblk m c 3 t) (Gen.iblk m c 5 t) (Gen.iblk m c 9 t)

/-- The recent pool rows a sequence's first point loads. -/
def hs0 : Hists F := hsA c (Gen.ms0_0 t) (Gen.hs0_0 t) (Gen.ms0_4 t) (Gen.hs0_4 t) (Gen.ms0_5 t) (Gen.hs0_5 t) (Gen.ms0_9 t) (Gen.hs0_9 t) Gen.scM0_0 (Gen.iblk m c 0 t) (Gen.iblk m c 4 t) (Gen.iblk m c 5 t) (Gen.iblk m c 9 t)

/-- The states a later point loads: what the point before left. -/
def stP : States F := stOf (Gen.ms0_15 t) (Gen.hs0_15 t) (Gen.outsAt0 m c (t.val - 1) (Nat.lt_of_le_of_lt (Nat.sub_le _ _) t.isLt)).2.1

/-- The recent pool rows a later point loads: what the point before left. -/
def hsP : Hists F := hsOf Gen.scM0_0 (Memref.isWhole_whole _) (Gen.outsAt0 m c (t.val - 1) (Nat.lt_of_le_of_lt (Nat.sub_le _ _) t.isLt)).2.2.2.2.2

/-- The sample states a point leaves. -/
theorem so_pt : (Gen.outsAt0 m c t.val t.isLt).2.2.2.1 = View.canon ((ld m c t).soL) := by
  by_cases h0 : t.val % 16 = 0
  · have e := congrArg (fun r => r.2.2.2.1) (Gen.outsAt0_A m c t h0 (by omega))
    dsimp only at e
    rw [e, Gen.out0_A_17, View.read_writes_junk_eq_canon, so_A]
    rfl
  by_cases h1 : t.val % 16 = 15
  · have e := congrArg (fun r => r.2.2.2.1) (Gen.outsAt0_C m c t h0 h1)
    dsimp only at e
    rw [e, Gen.out0_C_17, View.read_writes_junk_eq_canon, so_C]
    rfl
  · have e := congrArg (fun r => r.2.2.2.1) (Gen.outsAt0_B m c t h0 h1)
    dsimp only at e
    rw [e, Gen.out0_B_17, View.read_writes_junk_eq_canon, so_B]
    rfl

/-- The last pool rows a sequence's last point leaves. -/
theorem pb_pt (h1 : t.val % 16 = 15) : (Gen.outsAt0 m c t.val t.isLt).2.2.1 = View.canon ((ld m c t).pbL) := by
  have h0 : ¬t.val % 16 = 0 := by omega
  · have e := congrArg (fun r => r.2.2.1) (Gen.outsAt0_C m c t h0 h1)
    dsimp only at e
    rw [e, Gen.out0_C_16, View.read_writes_junk_eq_canon, pb_C]
    rfl

/-- The states a first point leaves. -/
theorem s_first (h0 : t.val % 16 = 0) : (Gen.outsAt0 m c t.val t.isLt).2.1 = View.canon ((ld m c t).sL (st0 m c t) ++ sI (Gen.ms0_3 t) (Gen.hs0_3 t) (Gen.iblk m c 3 t)) := by
  · have e := congrArg (fun r => r.2.1) (Gen.outsAt0_A m c t h0 (by omega))
    dsimp only at e
    rw [e, Gen.out0_A_15, View.read_writes_junk_eq_canon, s_A]
    rfl

/-- The states a later point leaves. -/
theorem s_next (h0 : ¬t.val % 16 = 0) : (Gen.outsAt0 m c t.val t.isLt).2.1 = View.canon ((ld m c t).sL (stP m c t)) := by
  by_cases h1 : t.val % 16 = 15
  · have e := congrArg (fun r => r.2.1) (Gen.outsAt0_C m c t h0 h1)
    dsimp only at e
    rw [e, Gen.out0_C_15, View.read_writes_junk_eq_canon, s_C]
    rfl
  · have e := congrArg (fun r => r.2.1) (Gen.outsAt0_B m c t h0 h1)
    dsimp only at e
    rw [e, Gen.out0_B_15, View.read_writes_junk_eq_canon, s_B]
    rfl

/-- The pool rows a first point keeps. -/
theorem h_first (h0 : t.val % 16 = 0) : (Gen.outsAt0 m c t.val t.isLt).2.2.2.2.2 = View.canon ((ld m c t).hL ++ hI (Gen.ms0_4 t) (Gen.hs0_4 t) (Gen.iblk m c 4 t)) := by
  · have e := congrArg (fun r => r.2.2.2.2.2) (Gen.outsAt0_A m c t h0 (by omega))
    dsimp only at e
    rw [e, Gen.sout0_A_0, View.read_writes_junk_eq_canon, h_A]
    rfl

/-- The pool rows a later point keeps. -/
theorem h_next (h0 : ¬t.val % 16 = 0) : (Gen.outsAt0 m c t.val t.isLt).2.2.2.2.2 = View.canon ((ld m c t).hL) := by
  by_cases h1 : t.val % 16 = 15
  · have e := congrArg (fun r => r.2.2.2.2.2) (Gen.outsAt0_C m c t h0 h1)
    dsimp only at e
    rw [e, Gen.sout0_C_0, View.read_writes_junk_eq_canon, h_C]
    rfl
  · have e := congrArg (fun r => r.2.2.2.2.2) (Gen.outsAt0_B m c t h0 h1)
    dsimp only at e
    rw [e, Gen.sout0_B_0, View.read_writes_junk_eq_canon, h_B]
    rfl

/-- The output rows a first point leaves. -/
theorem y_first (h0 : t.val % 16 = 0) : (Gen.outsAt0 m c t.val t.isLt).1 = View.canon ((ld m c t).yL (st0 m c t) (hs0 m c t)) := by
  · have e := congrArg (fun r => r.1) (Gen.outsAt0_A m c t h0 (by omega))
    dsimp only at e
    rw [e, Gen.out0_A_14, View.read_writes_junk_eq_canon, y_A]
    rfl

/-- The output rows a later point leaves. -/
theorem y_next (h0 : ¬t.val % 16 = 0) : (Gen.outsAt0 m c t.val t.isLt).1 = View.canon ((ld m c t).yL (stP m c t) (hsP m c t)) := by
  by_cases h1 : t.val % 16 = 15
  · have e := congrArg (fun r => r.1) (Gen.outsAt0_C m c t h0 h1)
    dsimp only at e
    rw [e, Gen.out0_C_14, View.read_writes_junk_eq_canon, y_C]
    rfl
  · have e := congrArg (fun r => r.1) (Gen.outsAt0_B m c t h0 h1)
    dsimp only at e
    rw [e, Gen.out0_B_14, View.read_writes_junk_eq_canon, y_B]
    rfl

end Cert.KernelIdeal
-- ==== Proof.Canon.lean ====
module

public import Idealize.ShloMosaic.Lib.WholeRead
public import proofs.«01_k».proof.Proof.Pieces
public import Idealize.ShloMosaic.Lib.Pointwise
public import Idealize.ShloMosaic.Lib.Pipeline.CanonAppend

/-! What a list of stored tiles leaves in the window, element by element. -/

@[expose] public section

set_option maxRecDepth 16384

noncomputable section

namespace Cert.KernelIdeal

open Idealize.ShloMosaic Idealize.SL.Sem

/-- Stores that miss an index leave there what the stores before them left. -/
theorem canon_append_of_miss {Val : EltTy → Type} [∀ e, Nonempty (Val e)] {S : Shape} {e : EltTy} (I : List (View.Piece Val S e)) (y : S.Idx) :
    ∀ L : List (View.Piece Val S e), (∀ p ∈ L, y ∉ p.1.set) → View.canon (L ++ I) y = View.canon I y
  | [], _ => rfl
  | p :: L, h => by
    rw [List.cons_append, View.canon_cons_of_not_mem _ _ (h p (by simp))]
    exact canon_append_of_miss I y L fun q hq => h q (by simp [hq])

/-- A rectangle holds its own places. -/
theorem emb_mem {S : Shape} (r : Rect S) (x : r.shape.Idx) : r.emb x ∈ r.set := r.idx_mem x

/-- A unit rectangle's places lie in its range on each axis. -/
theorem range_of_mem {S : Shape} (off size : Fin S.rank → ℕ) (inb : ∀ a, off a + size a ≤ S.size a) (y : S.Idx)
    (h : y ∈ (Rect.unit off size inb).set) (a : Fin S.rank) : off a ≤ (y a : ℕ) ∧ (y a : ℕ) < off a + size a :=
  Rect.mem_set_unit.mp h a

variable {F : FTy → Type} [FloatOps F] [Named F]

/-- A head's tile lies at its batch and head. -/
theorem rS_emb (b : Fin 4) (h : Fin 8) (d e : Fin 128) : (rS b h).emb (ix4 0 0 d e) = ix4 b h d e := by
  funext a
  apply Fin.ext
  fin_cases a
  · show (b : ℕ) + 1 * 0 = b; omega
  · show (h : ℕ) + 1 * 0 = h; omega
  · show 0 + 1 * (d : ℕ) = d; omega
  · show 0 + 1 * (e : ℕ) = e; omega

/-- A column group's tile lies at its batch and columns. -/
theorem rH_emb (b g : Fin 4) (i : Fin 16) (d : Fin 256) : (rH b g).emb (ix3 0 i d) = ix3 b i ⟨256 * g + d, by omega⟩ := by
  funext a
  apply Fin.ext
  fin_cases a
  · show (b : ℕ) + 1 * 0 = b; omega
  · show 0 + 1 * (i : ℕ) = i; omega
  · show 256 * (g : ℕ) + 1 * (d : ℕ) = 256 * g + d; omega

/-- Two batches' rows lie at the batches. -/
theorem rY_emb (p a : Fin 2) (r : Fin 128) (c : Fin 1024) : (rY p).emb (ix3 a r c) = ix3 ⟨2 * p + a, by omega⟩ r c := by
  funext k
  apply Fin.ext
  fin_cases k
  · show 2 * (p : ℕ) + 1 * (a : ℕ) = 2 * p + a; omega
  · show 0 + 1 * (r : ℕ) = r; omega
  · show 0 + 1 * (c : ℕ) = c; omega

/-- A batch's last pool rows lie at the batch. -/
theorem rPb_emb (b : Fin 4) (i : Fin 15) (c : Fin 1024) : (rPb b).emb (ix3 0 i c) = ix3 b i c := by
  funext a
  apply Fin.ext
  fin_cases a
  · show (b : ℕ) + 1 * 0 = b; omega
  · show 0 + 1 * (i : ℕ) = i; omega
  · show 0 + 1 * (c : ℕ) = c; omega

/-- The indices of a head's tile. -/
theorem idxS (x : S1x1x128x128.Idx) : x = ix4 0 0 (x 2) (x 3) := by
  funext a
  fin_cases a
  · exact Subsingleton.elim (α := Fin 1) _ _
  · exact Subsingleton.elim (α := Fin 1) _ _
  · rfl
  · rfl

/-- The indices of a column group's tile. -/
theorem idxH (x : S1x16x256.Idx) : x = ix3 0 (x 1) (x 2) := by
  funext a
  fin_cases a
  · exact Subsingleton.elim (α := Fin 1) _ _
  · rfl
  · rfl

/-- What head tiles stored at every batch and head leave, over any earlier stores. -/
theorem canon_heads (P : Fin 4 → Fin 8 → FVec F S1x1x128x128 .f32) (I : List (View.Piece (Elt F) S4x8x128x128 .f32))
    (b : Fin 4) (h : Fin 8) (d e : Fin 128) :
    View.canon ((List.ofFn fun n : Fin 32 => (⟨rS (bOf n) (hOf n), P (bOf n) (hOf n)⟩ : View.Piece (Elt F) S4x8x128x128 .f32)) ++ I) (ix4 b h d e)
      = P b h (ix4 0 0 d e) := by
  refine View.canon_append_of_pieces (fun y => P (y 0) (y 1) (ix4 0 0 (y 2) (y 3))) I _ ?_ (ix4 b h d e) ?_
  · intro p hp
    obtain ⟨n, rfl⟩ := (List.mem_ofFn' _ _).mp hp
    intro x
    obtain ⟨d, e, rfl⟩ : ∃ d e : Fin 128, x = ix4 0 0 d e := ⟨_, _, idxS x⟩
    rw [rS_emb]
    rfl
  · refine ⟨⟨rS b h, P b h⟩, (List.mem_ofFn' _ _).mpr ⟨⟨(3 - b) + 4 * (7 - h), by omega⟩, ?_⟩, ?_⟩
    · dsimp only
      have h1 : bOf ⟨(3 - b) + 4 * (7 - h), by omega⟩ = b := Fin.ext (by show 3 - ((3 - (b : ℕ)) + 4 * (7 - h)) % 4 = b; omega)
      have h2 : hOf ⟨(3 - b) + 4 * (7 - h), by omega⟩ = h := Fin.ext (by show 7 - ((3 - (b : ℕ)) + 4 * (7 - h)) / 4 = h; omega)
      rw [h1, h2]
    · rw [← rS_emb b h d e]
      exact emb_mem _ _

/-- What column tiles stored at every batch and group leave, over any earlier stores. -/
theorem canon_groups (P : Fin 4 → Fin 4 → FVec F S1x16x256 .f32) (I : List (View.Piece (Elt F) S4x16x1024 .f32))
    (b g : Fin 4) (i : Fin 16) (d : Fin 256) :
    View.canon ((List.ofFn fun n : Fin 16 => (⟨rH (bOf' n) (gOf n), P (bOf' n) (gOf n)⟩ : View.Piece (Elt F) S4x16x1024 .f32)) ++ I)
      (ix3 b i ⟨256 * g + d, by omega⟩) = P b g (ix3 0 i d) := by
  have hg : ∀ (g : Fin 4) (d : Fin 256), (⟨(256 * (g : ℕ) + d) / 256, by omega⟩ : Fin 4) = g := fun g d => Fin.ext (by dsimp only; omega)
  have hd : ∀ (g : Fin 4) (d : Fin 256), (⟨(256 * (g : ℕ) + d) % 256, by omega⟩ : Fin 256) = d := fun g d => Fin.ext (by dsimp only; omega)
  have key := View.canon_append_of_pieces (Val := Elt F) (fun y : S4x16x1024.Idx => (P (y 0) ⟨(y 2 : Fin 1024) / 256, by have : ((y 2 : Fin 1024) : ℕ) < 1024 := (y 2).isLt; omega⟩ (ix3 0 (y 1) ⟨(y 2 : Fin 1024) % 256, Nat.mod_lt _ (by decide)⟩) : Elt F .f32)) I
    (List.ofFn fun n : Fin 16 => (⟨rH (bOf' n) (gOf n), P (bOf' n) (gOf n)⟩ : View.Piece (Elt F) S4x16x1024 .f32)) ?_ (ix3 b i ⟨256 * g + d, by omega⟩) ?_
  · refine key.trans ?_
    show P b (⟨(256 * (g : ℕ) + d) / 256, by omega⟩ : Fin 4) (ix3 0 i (⟨(256 * (g : ℕ) + d) % 256, by omega⟩ : Fin 256)) = _
    rw [hg, hd]
  · intro p hp
    obtain ⟨n, rfl⟩ := (List.mem_ofFn' _ _).mp hp
    intro x
    obtain ⟨i, d, rfl⟩ : ∃ (i : Fin 16) (d : Fin 256), x = ix3 0 i d := ⟨_, _, idxH x⟩
    rw [rH_emb]
    show _ = P (bOf' n) (⟨(256 * (gOf n : ℕ) + d) / 256, by omega⟩ : Fin 4) (ix3 0 i (⟨(256 * (gOf n : ℕ) + d) % 256, by omega⟩ : Fin 256))
    rw [hg, hd]
  · refine ⟨⟨rH b g, P b g⟩, (List.mem_ofFn' _ _).mpr ⟨⟨(3 - b) + 4 * (3 - g), by omega⟩, ?_⟩, ?_⟩
    · dsimp only
      have h1 : bOf' ⟨(3 - b) + 4 * (3 - g), by omega⟩ = b := Fin.ext (by show 3 - ((3 - (b : ℕ)) + 4 * (3 - g)) % 4 = b; omega)
      have h2 : gOf ⟨(3 - b) + 4 * (3 - g), by omega⟩ = g := Fin.ext (by show 3 - ((3 - (b : ℕ)) + 4 * (3 - g)) / 4 = g; omega)
      rw [h1, h2]
    · rw [← rH_emb b g i d]
      exact emb_mem _ _

/-- The stored output rows, element by element. -/
theorem canon_rows (P : Fin 2 → FVec F S2x128x1024 .f32) (b : Fin 4) (r : Fin 128) (c : Fin 1024) :
    View.canon ([⟨rY 1, P 1⟩, ⟨rY 0, P 0⟩] : List (View.Piece (Elt F) S4x128x1024 .f32)) (ix3 b r c)
      = P ⟨b / 2, by omega⟩ (ix3 ⟨b % 2, by omega⟩ r c) := by
  have hq : ∀ p a : Fin 2, (⟨(2 * (p : ℕ) + a) / 2, by omega⟩ : Fin 2) = p := fun p a => Fin.ext (by dsimp only; omega)
  have hr : ∀ p a : Fin 2, (⟨(2 * (p : ℕ) + a) % 2, by omega⟩ : Fin 2) = a := fun p a => Fin.ext (by dsimp only; omega)
  have key : ∀ (p : Fin 2) (x : S2x128x1024.Idx), P p x = (fun y : S4x128x1024.Idx =>
      show Elt F .f32 from P ⟨(y 0 : Fin 4) / 2, by have : ((y 0 : Fin 4) : ℕ) < 4 := (y 0).isLt; omega⟩ (ix3 ⟨(y 0 : Fin 4) % 2, Nat.mod_lt _ (by decide)⟩ (y 1) (y 2)))
      ((rY p).emb x) := by
    intro p x
    obtain ⟨a, r, c, rfl⟩ : ∃ (a : Fin 2) (r : Fin 128) (c : Fin 1024), x = ix3 a r c := ⟨x 0, x 1, x 2, by funext k; fin_cases k <;> rfl⟩
    rw [rY_emb]
    show _ = P (⟨(2 * (p : ℕ) + a) / 2, by omega⟩ : Fin 2) (ix3 (⟨(2 * (p : ℕ) + a) % 2, by omega⟩ : Fin 2) r c)
    rw [hq, hr]
  have hb : (ix3 b r c : S4x128x1024.Idx) = (rY ⟨b / 2, by omega⟩).emb (ix3 (⟨b % 2, by omega⟩ : Fin 2) r c) := by
    rw [rY_emb]
    exact congrArg (fun i => ix3 i r c) (Fin.ext (by dsimp only; omega))
  refine View.canon_apply_of_pieces (Val := Elt F) (fun y : S4x128x1024.Idx =>
      show Elt F .f32 from P ⟨(y 0 : Fin 4) / 2, by have : ((y 0 : Fin 4) : ℕ) < 4 := (y 0).isLt; omega⟩ (ix3 ⟨(y 0 : Fin 4) % 2, Nat.mod_lt _ (by decide)⟩ (y 1) (y 2)))
    _ ?_ (ix3 b r c) ?_
  · intro q hq'
    rcases List.mem_cons.mp hq' with rfl | hq'
    · exact key 1
    · obtain rfl := List.mem_singleton.mp hq'
      exact key 0
  · refine ⟨⟨rY ⟨b / 2, by omega⟩, P ⟨b / 2, by omega⟩⟩, ?_, hb ▸ emb_mem _ _⟩
    fin_cases b
    · exact List.mem_cons_of_mem _ (List.mem_singleton.mpr rfl)
    · exact List.mem_cons_of_mem _ (List.mem_singleton.mpr rfl)
    · exact List.mem_cons_self
    · exact List.mem_cons_self

/-- The stored last pool rows, element by element. -/
theorem canon_tails (P : Fin 4 → FVec F S1x15x1024 .f32) (b : Fin 4) (i : Fin 15) (c : Fin 1024) :
    View.canon ([⟨rPb 3, P 3⟩, ⟨rPb 2, P 2⟩, ⟨rPb 1, P 1⟩, ⟨rPb 0, P 0⟩] : List (View.Piece (Elt F) S4x15x1024 .f32)) (ix3 b i c)
      = P b (ix3 0 i c) := by
  have key : ∀ (b : Fin 4) (x : S1x15x1024.Idx), P b x = (fun y : S4x15x1024.Idx => show Elt F .f32 from P (y 0) (ix3 0 (y 1) (y 2))) ((rPb b).emb x) := by
    intro b x
    obtain ⟨i, c, rfl⟩ : ∃ (i : Fin 15) (c : Fin 1024), x = ix3 0 i c := ⟨x 1, x 2, by
      funext k
      fin_cases k
      · exact Subsingleton.elim (α := Fin 1) _ _
      · rfl
      · rfl⟩
    rw [rPb_emb]
    rfl
  refine View.canon_apply_of_pieces (Val := Elt F) (fun y : S4x15x1024.Idx => show Elt F .f32 from P (y 0) (ix3 0 (y 1) (y 2))) _ ?_ (ix3 b i c) ?_
  · intro q hq
    rcases List.mem_cons.mp hq with rfl | hq
    · exact key 3
    rcases List.mem_cons.mp hq with rfl | hq
    · exact key 2
    rcases List.mem_cons.mp hq with rfl | hq
    · exact key 1
    · obtain rfl := List.mem_singleton.mp hq
      exact key 0
  · refine ⟨⟨rPb b, P b⟩, ?_, rPb_emb b i c ▸ emb_mem _ _⟩
    fin_cases b
    · exact List.mem_cons_of_mem _ (List.mem_cons_of_mem _ (List.mem_cons_of_mem _ (List.mem_singleton.mpr rfl)))
    · exact List.mem_cons_of_mem _ (List.mem_cons_of_mem _ List.mem_cons_self)
    · exact List.mem_cons_of_mem _ List.mem_cons_self
    · exact List.mem_cons_self

/-- Head tiles stored before a head's leave its place as it was. -/
theorem canon_heads_before (P : Fin 4 → Fin 8 → FVec F S1x1x128x128 .f32) (I : List (View.Piece (Elt F) S4x8x128x128 .f32))
    (b : Fin 4) (h : Fin 8) (d e : Fin 128) :
    View.canon (((List.ofFn fun n : Fin 32 => (⟨rS (bOf n) (hOf n), P (bOf n) (hOf n)⟩ : View.Piece (Elt F) S4x8x128x128 .f32)) ++ I).drop
      (32 - (4 * (h : ℕ) + (b : ℕ)))) (ix4 b h d e) = View.canon I (ix4 b h d e) := by
  rw [List.drop_append_of_le_length (by rw [List.length_ofFn]; omega)]
  refine canon_append_of_miss I _ _ ?_
  intro p hp hm
  obtain ⟨k, hk, rfl⟩ := List.mem_iff_getElem.mp hp
  rw [List.length_drop, List.length_ofFn] at hk
  rw [List.getElem_drop, List.getElem_ofFn] at hm
  have h0 := range_of_mem _ _ (inS _ _) _ hm 0
  have h1 := range_of_mem _ _ (inS _ _) _ hm 1
  have h2 : 3 - (32 - (4 * (h : ℕ) + b) + k) % 4 ≤ b ∧ (b : ℕ) < 3 - (32 - (4 * (h : ℕ) + b) + k) % 4 + 1 := h0
  have h3 : 7 - (32 - (4 * (h : ℕ) + b) + k) / 4 ≤ h ∧ (h : ℕ) < 7 - (32 - (4 * (h : ℕ) + b) + k) / 4 + 1 := h1
  omega

/-- Column tiles stored before a tile leave its place as it was. -/
theorem canon_groups_before (P : Fin 4 → Fin 4 → FVec F S1x16x256 .f32) (I : List (View.Piece (Elt F) S4x16x1024 .f32))
    (b g : Fin 4) (i : Fin 16) (d : Fin 256) :
    View.canon (((List.ofFn fun n : Fin 16 => (⟨rH (bOf' n) (gOf n), P (bOf' n) (gOf n)⟩ : View.Piece (Elt F) S4x16x1024 .f32)) ++ I).drop
      (16 - (4 * (g : ℕ) + (b : ℕ)))) (ix3 b i ⟨256 * g + d, by omega⟩) = View.canon I (ix3 b i ⟨256 * g + d, by omega⟩) := by
  rw [List.drop_append_of_le_length (by rw [List.length_ofFn]; omega)]
  refine canon_append_of_miss I _ _ ?_
  intro p hp hm
  obtain ⟨k, hk, rfl⟩ := List.mem_iff_getElem.mp hp
  rw [List.length_drop, List.length_ofFn] at hk
  rw [List.getElem_drop, List.getElem_ofFn] at hm
  have h0 := range_of_mem _ _ (inH _ _) _ hm 0
  have h1 := range_of_mem _ _ (inH _ _) _ hm 2
  have h2 : 3 - (16 - (4 * (g : ℕ) + b) + k) % 4 ≤ b ∧ (b : ℕ) < 3 - (16 - (4 * (g : ℕ) + b) + k) % 4 + 1 := h0
  have h3 : 256 * (3 - (16 - (4 * (g : ℕ) + b) + k) / 4) ≤ 256 * (g : ℕ) + d
      ∧ 256 * (g : ℕ) + d < 256 * (3 - (16 - (4 * (g : ℕ) + b) + k) / 4) + 256 := h1
  omega

/-- What the stores of a sequence's first state leave, batch by batch. -/
theorem canon_sI (arg5 : Memref sig .tc .vmem S8x128x128 .f32) (harg5 : arg5.IsWhole) (x3 : Vec F S8x128x128 .f32)
    (b : Fin 4) (h : Fin 8) (d e : Fin 128) : View.canon (sI arg5 harg5 x3) (ix4 b h d e) = x3 (ix3 h d e) := by
  have key : ∀ (k : Fin 4) (inb : ∀ a, (![(k : ℕ), 0, 0, 0] : Fin 4 → ℕ) a + S1x8x128x128.size a ≤ S4x8x128x128.size a) (x : S1x8x128x128.Idx),
      shapeCast S1x8x128x128 (View.readAt (Elt F) arg5.view (Rect.unit (s := S8x128x128) ![0, 0, 0] S8x128x128.size (by decide)).toLoadRect (harg5.unread x3)) (by decide) x
        = (fun y : S4x8x128x128.Idx => x3 (ix3 (y 1) (y 2) (y 3))) ((Rect.unit (s := S4x8x128x128) ![(k : ℕ), 0, 0, 0] S1x8x128x128.size inb).emb x) := by
    intro k inb x
    obtain ⟨h, d, e, rfl⟩ : ∃ (h : Fin 8) (d e : Fin 128), x = ix4 0 h d e := ⟨x 1, x 2, x 3, by
      funext k
      fin_cases k
      · exact Subsingleton.elim (α := Fin 1) _ _
      · rfl
      · rfl
      · rfl⟩
    pointwise
    rw [Memref.IsWhole.readAt_unread]
    refine congrArg x3 ?_
    funext a
    apply Fin.ext
    fin_cases a <;> rfl
  have hm : ∀ (k : Fin 4) (inb : ∀ a, (![(k : ℕ), 0, 0, 0] : Fin 4 → ℕ) a + S1x8x128x128.size a ≤ S4x8x128x128.size a),
      b = k → (ix4 b h d e : S4x8x128x128.Idx) ∈ (Rect.unit (s := S4x8x128x128) ![(k : ℕ), 0, 0, 0] S1x8x128x128.size inb).set := by
    rintro k inb rfl
    refine Rect.mem_set_unit.mpr fun a => ?_
    fin_cases a
    · exact ⟨le_refl (b : ℕ), Nat.lt_succ_self (b : ℕ)⟩
    · exact ⟨Nat.zero_le _, by show (h : ℕ) < 0 + 8; omega⟩
    · exact ⟨Nat.zero_le _, by show (d : ℕ) < 0 + 128; omega⟩
    · exact ⟨Nat.zero_le _, by show (e : ℕ) < 0 + 128; omega⟩
  refine View.canon_apply_of_pieces (Val := Elt F) (fun y : S4x8x128x128.Idx => x3 (ix3 (y 1) (y 2) (y 3))) _ ?_ (ix4 b h d e) ?_
  · intro q hq
    rcases List.mem_cons.mp hq with rfl | hq
    · exact key 3 (by decide)
    rcases List.mem_cons.mp hq with rfl | hq
    · exact key 2 (by decide)
    rcases List.mem_cons.mp hq with rfl | hq
    · exact key 1 (by decide)
    · obtain rfl := List.mem_singleton.mp hq
      exact key 0 (by decide)
  · by_cases h3 : b = 3
    · exact ⟨_, List.mem_cons_self, hm 3 (by decide) h3⟩
    by_cases h2 : b = 2
    · exact ⟨_, List.mem_cons_of_mem _ List.mem_cons_self, hm 2 (by decide) h2⟩
    by_cases h1 : b = 1
    · exact ⟨_, List.mem_cons_of_mem _ (List.mem_cons_of_mem _ List.mem_cons_self), hm 1 (by decide) h1⟩
    · exact ⟨_, List.mem_cons_of_mem _ (List.mem_cons_of_mem _ (List.mem_cons_of_mem _ (List.mem_singleton.mpr rfl))), hm 0 (by decide) (by omega)⟩

/-- What the stores of a sequence's first pool rows leave, batch by batch. -/
theorem canon_hI (arg6 : Memref sig .tc .vmem S16x1024 .f32) (harg6 : arg6.IsWhole) (x4 : Vec F S16x1024 .f32)
    (b : Fin 4) (i : Fin 16) (c : Fin 1024) : View.canon (hI arg6 harg6 x4) (ix3 b i c) = x4 (ix2 i c) := by
  have key : ∀ (k : Fin 4) (inb : ∀ a, (![(k : ℕ), 0, 0] : Fin 3 → ℕ) a + S1x16x1024.size a ≤ S4x16x1024.size a) (x : S1x16x1024.Idx),
      shapeCast S1x16x1024 (View.readAt (Elt F) arg6.view (Rect.unit (s := S16x1024) ![0, 0] S16x1024.size (by decide)).toLoadRect (harg6.unread x4)) (by decide) x
        = (fun y : S4x16x1024.Idx => x4 (ix2 (y 1) (y 2))) ((Rect.unit (s := S4x16x1024) ![(k : ℕ), 0, 0] S1x16x1024.size inb).emb x) := by
    intro k inb x
    obtain ⟨i, c, rfl⟩ : ∃ (i : Fin 16) (c : Fin 1024), x = ix3 0 i c := ⟨x 1, x 2, by
      funext k
      fin_cases k
      · exact Subsingleton.elim (α := Fin 1) _ _
      · rfl
      · rfl⟩
    pointwise
    rw [Memref.IsWhole.readAt_unread]
    refine congrArg x4 ?_
    funext a
    apply Fin.ext
    fin_cases a <;> rfl
  have hm : ∀ (k : Fin 4) (inb : ∀ a, (![(k : ℕ), 0, 0] : Fin 3 → ℕ) a + S1x16x1024.size a ≤ S4x16x1024.size a),
      b = k → (ix3 b i c : S4x16x1024.Idx) ∈ (Rect.unit (s := S4x16x1024) ![(k : ℕ), 0, 0] S1x16x1024.size inb).set := by
    rintro k inb rfl
    refine Rect.mem_set_unit.mpr fun a => ?_
    fin_cases a
    · exact ⟨le_refl (b : ℕ), Nat.lt_succ_self (b : ℕ)⟩
    · exact ⟨Nat.zero_le _, by show (i : ℕ) < 0 + 16; omega⟩
    · exact ⟨Nat.zero_le _, by show (c : ℕ) < 0 + 1024; omega⟩
  refine View.canon_apply_of_pieces (Val := Elt F) (fun y : S4x16x1024.Idx => x4 (ix2 (y 1) (y 2))) _ ?_ (ix3 b i c) ?_
  · intro q hq
    rcases List.mem_cons.mp hq with rfl | hq
    · exact key 3 (by decide)
    rcases List.mem_cons.mp hq with rfl | hq
    · exact key 2 (by decide)
    rcases List.mem_cons.mp hq with rfl | hq
    · exact key 1 (by decide)
    · obtain rfl := List.mem_singleton.mp hq
      exact key 0 (by decide)
  · by_cases h3 : b = 3
    · exact ⟨_, List.mem_cons_self, hm 3 (by decide) h3⟩
    by_cases h2 : b = 2
    · exact ⟨_, List.mem_cons_of_mem _ List.mem_cons_self, hm 2 (by decide) h2⟩
    by_cases h1 : b = 1
    · exact ⟨_, List.mem_cons_of_mem _ (List.mem_cons_of_mem _ List.mem_cons_self), hm 1 (by decide) h1⟩
    · exact ⟨_, List.mem_cons_of_mem _ (List.mem_cons_of_mem _ (List.mem_cons_of_mem _ (List.mem_singleton.mpr rfl))), hm 0 (by decide) (by omega)⟩

end Cert.KernelIdeal
-- ==== Proof.Spec.lean ====
module

public import Idealize.ShloMosaic.Lib.Pointwise

/-! One chunk of 128 positions of one sequence, as formulas over the extended reals: the projections, the retention,
the pool, the output row, from the chunk's rows and the parameters. Both programs are compared with these formulas. -/

@[expose] public section

set_option maxRecDepth 16384

noncomputable section

namespace Cert

open Idealize.ShloMosaic

/-- What a chunk is computed from: its rows, its positions' angles, and the parameters. -/
structure Chunk where
  x : Fin 128 → Fin 1024 → EReal
  cos : Fin 128 → Fin 64 → EReal
  sin : Fin 128 → Fin 64 → EReal
  nw : Fin 1024 → EReal
  ps : Fin 1024 → EReal
  rn : Fin 1024 → EReal
  fn : Fin 1024 → EReal
  w : Fin 1024 → Fin 6144 → EReal
  wo : Fin 2048 → Fin 1024 → EReal

/-- A head's state. -/
abbrev HeadState : Type := Fin 128 → Fin 128 → EReal

/-- The rows the pool keeps from before the chunk. -/
abbrev PoolRows : Type := Fin 16 → Fin 1024 → EReal

/-- One over the root of a row's mean square (`len` its length), the mean raised by the programs' small constant. -/
def inv {n : ℕ} (len : EReal) (x : Fin n → EReal) : EReal :=
  Ideal.rsqrt (Ideal.div (∑ k, x k * x k) len + Ideal.ofBits .f32 0x358637BD#32)

/-- `v / (1 + exp(-v))`. -/
def silu (v : EReal) : EReal := v * Ideal.div 1 (1 + Ideal.exp (-v))

/-- The logarithm of a head's decay. -/
def lgE (h : Fin 8) : EReal :=
  ![((Real.log (31 / 32) : ℝ) : EReal), ((Real.log (63 / 64) : ℝ) : EReal), ((Real.log (127 / 128) : ℝ) : EReal),
    ((Real.log (255 / 256) : ℝ) : EReal), ((Real.log (511 / 512) : ℝ) : EReal), ((Real.log (1023 / 1024) : ℝ) : EReal),
    ((Real.log (2047 / 2048) : ℝ) : EReal), ((Real.log (4095 / 4096) : ℝ) : EReal)] h

/-- The factor a whole chunk decays a head's state by. -/
def cdE (h : Fin 8) : EReal := Ideal.exp (lgE h * Ideal.ofBits .f32 0x43000000#32)

/-- The scale of the keys, one over the square root of the head's width. -/
def kscaleE : EReal := (((Real.sqrt 128)⁻¹ : ℝ) : EReal)

/-- A position of the chunk, as a float. -/
def pos (r : Fin 128) : EReal := (FloatOps.sitofp (F := Ideal) FTy.f32 (BitVec.ofNat 32 (r : ℕ)) : EReal)

/-- The causal decay between two positions. -/
def mask (h : Fin 8) (r m : Fin 128) : EReal :=
  if 0 ≤ pos r - pos m then Ideal.exp (lgE h * max (pos r - pos m) 0) else 0

/-- The decay of a query against the state the chunk starts from. -/
def qdecE (h : Fin 8) (r : Fin 128) : EReal := Ideal.exp (lgE h * (pos r + 1))

/-- The decay of a key up to the chunk's end. -/
def kdecE (h : Fin 8) (r : Fin 128) : EReal := Ideal.exp (lgE h * (Ideal.ofBits .f32 0x42FE0000#32 - pos r))

/-- A pool group's window length. -/
def wlenE (g : Fin 4) : EReal :=
  ![Ideal.ofBits .f32 0x40000000#32, Ideal.ofBits .f32 0x40800000#32, Ideal.ofBits .f32 0x41000000#32,
    Ideal.ofBits .f32 0x41800000#32] g

namespace Chunk

variable (C : Chunk)

/-- The normed rows. -/
def hn (r : Fin 128) (c : Fin 1024) : EReal := C.x r c * inv (Ideal.ofBits .f32 0x44800000#32) (C.x r) * C.nw c

/-- The projections. -/
def p (r : Fin 128) (j : Fin 6144) : EReal := ∑ k, C.hn r k * C.w k j

/-- A head's columns of the `s`-th projection. -/
def tile (s : Fin 6) (h : Fin 8) (r d : Fin 128) : EReal := C.p r ⟨1024 * s + 128 * h + d, by omega⟩

/-- Rows turned by the positions' angles. -/
def rot (t : Fin 128 → Fin 128 → EReal) (r d : Fin 128) : EReal :=
  if hd : (d : ℕ) < 64 then t r d * C.cos r ⟨d, hd⟩ - t r ⟨d + 64, by omega⟩ * C.sin r ⟨d, hd⟩
  else t r ⟨d - 64, by omega⟩ * C.sin r ⟨d - 64, by omega⟩ + t r d * C.cos r ⟨d - 64, by omega⟩

/-- The queries. -/
def q (h : Fin 8) (r d : Fin 128) : EReal := C.rot (C.tile 2 h) r d

/-- The scaled keys. -/
def k (h : Fin 8) (r d : Fin 128) : EReal := C.rot (C.tile 3 h) r d * kscaleE

/-- The values. -/
def v (h : Fin 8) (r d : Fin 128) : EReal := C.tile 4 h r d

/-- The state the chunk ends with. -/
def s1 (h : Fin 8) (S : HeadState) (d e : Fin 128) : EReal :=
  cdE h * S d e + ∑ m, C.k h m d * kdecE h m * C.v h m e

/-- The retention's output. -/
def o (h : Fin 8) (S : HeadState) (r e : Fin 128) : EReal :=
  ∑ m, (∑ d, C.q h r d * C.k h m d) * mask h r m * C.v h m e + ∑ d, C.q h r d * qdecE h r * S d e

/-- The retention's normed and gated head. -/
def ret (h : Fin 8) (S : HeadState) (r e : Fin 128) : EReal :=
  C.o h S r e * inv (Ideal.ofBits .f32 0x43000000#32) (C.o h S r) * C.rn ⟨128 * h + e, by omega⟩ * silu (C.tile 5 h r e)

/-- The kept rows, then the chunk's. -/
def ext (H : PoolRows) (n : Fin 144) (c : Fin 1024) : EReal :=
  if hn : (n : ℕ) < 16 then H ⟨n, hn⟩ c else C.p ⟨n - 16, by omega⟩ ⟨c, by omega⟩

/-- The `j`-th row back. -/
def back (H : PoolRows) (c : Fin 1024) (r : Fin 128) (j : ℕ) : EReal := C.ext H ⟨16 + r - j, by omega⟩ c

/-- The sum over a group's window: the last 2, 4, 8 or 16 rows. -/
def win (H : PoolRows) (g : Fin 4) (c : Fin 1024) (r : Fin 128) : EReal :=
  ∑ j ∈ Finset.range (2 ^ ((g : ℕ) + 1)), C.back H c r j

/-- The pool's gated column. -/
def mix (H : PoolRows) (r : Fin 128) (c : Fin 1024) : EReal :=
  (Ideal.div (C.win H ⟨c / 256, by omega⟩ c r) (wlenE ⟨c / 256, by omega⟩) - C.p r ⟨c, by omega⟩) * C.ps c
    * silu (C.p r ⟨1024 + c, by omega⟩)

/-- The output row before its norm. -/
def pre (S : Fin 8 → HeadState) (H : PoolRows) (r : Fin 128) (c : Fin 1024) : EReal :=
  C.x r c + (∑ k : Fin 1024, C.mix H r k * C.wo ⟨k, by omega⟩ c
    + ∑ k : Fin 1024, C.ret ⟨k / 128, by omega⟩ (S ⟨k / 128, by omega⟩) r ⟨k % 128, by omega⟩ * C.wo ⟨1024 + k, by omega⟩ c)

/-- The output row. -/
def y (S : Fin 8 → HeadState) (H : PoolRows) (r : Fin 128) (c : Fin 1024) : EReal :=
  C.pre S H r c * inv (Ideal.ofBits .f32 0x44800000#32) (C.pre S H r) * C.fn c

/-- The pool rows kept for the next chunk. -/
def keep (i : Fin 16) (c : Fin 1024) : EReal := C.p ⟨112 + i, by omega⟩ ⟨c, by omega⟩

end Chunk

end Cert
-- ==== Proof.Kern.lean ====
module

public import proofs.«01_k».proof.Proof.Spec
public import proofs.«01_k».proof.Proof.Tiles

/-! The kernel's tiles, element by element, are the chunk's formulas. -/

@[expose] public section

set_option maxRecDepth 16384

noncomputable section

namespace Cert.KernelIdeal

open Idealize.ShloMosaic Idealize.SL.Sem

/-- The loaded tiles of batch `b` hold the chunk's rows and parameters. -/
structure Agrees (L : Loads Ideal) (b : Fin 4) (C : Chunk) : Prop where
  x : ∀ (r : Fin 128) (c : Fin 1024), L.x (ix3 b r c) = C.x r c
  cos : ∀ r d : Fin 128, L.cos (ix2 r d) = C.cos r ⟨d % 64, by omega⟩
  sin : ∀ r d : Fin 128, L.sin (ix2 r d) = if hd : (d : ℕ) < 64 then -C.sin r ⟨d, hd⟩ else C.sin r ⟨d - 64, by omega⟩
  nw : ∀ c : Fin 1024, L.nw (ix2 0 c) = C.nw c
  fn : ∀ c : Fin 1024, L.fn (ix2 0 c) = C.fn c
  ps : ∀ (g : Fin 4) (d : Fin 256), L.ps g (ix2 0 d) = C.ps ⟨256 * g + d, by omega⟩
  rn : ∀ (h : Fin 8) (e : Fin 128), L.rn h (ix2 0 e) = C.rn ⟨128 * h + e, by omega⟩
  w : ∀ (t : Fin 24) (k : Fin 1024) (d : Fin 256),
    Ideal.ofBits .bf16 (bitcast S1024x256 16 (L.w t) (by decide) (ix2 k d)) = C.w k ⟨256 * t + d, by omega⟩
  wo : ∀ (p : Fin 2) (k c : Fin 1024),
    Ideal.ofBits .bf16 (bitcast S1024x1024 16 (L.wo p) (by decide) (ix2 k c)) = C.wo ⟨1024 * p + k, by omega⟩ c

variable {L : Loads Ideal} {b : Fin 4} {C : Chunk} (A : Agrees L b C)

include A

/-- The rows, stacked. -/
theorem xr_at (r : Fin 128) (c : Fin 1024) : L.xr (ix2 ⟨128 * b + r, by omega⟩ c) = C.x r c := by
  rw [← A.x r c]
  pointwise [Loads.xr]

/-- The normed rows. -/
theorem hb_at (r : Fin 128) (c : Fin 1024) : L.hb (ix2 ⟨128 * b + r, by omega⟩ c) = C.hn r c := by
  pointwise [Loads.hb, Loads.xr, Chunk.hn, inv]
  simp only [A.x, A.nw]

/-- A column tile of the projections. -/
theorem proj_at (t : Fin 24) (r : Fin 128) (d : Fin 256) :
    L.proj t (ix2 ⟨128 * b + r, by omega⟩ d) = C.p r ⟨256 * t + d, by omega⟩ := by
  pointwise [Loads.proj, Chunk.p]
  exact Finset.sum_congr rfl fun k _ => congrArg₂ (· * ·) (hb_at A r k) (A.w t k d)

omit A in
/-- A head's tile is its columns of the stacked rows. -/
theorem head_at (b : Fin 4) (h : Fin 8) (v : FVec Ideal S512x256 .f32) (r d : Fin 128) :
    Loads.head b h v (ix2 r d) = v (ix2 ⟨128 * b + r, by omega⟩ ⟨128 * (h % 2) + d, by omega⟩) := by
  pointwise [Loads.head, Loads.rows]

/-- A head's columns of a projection. -/
theorem tile_at (s : Fin 6) (h : Fin 8) (t : Fin 24) (ht : (t : ℕ) = 4 * s + h / 2) (r d : Fin 128) :
    Loads.head b h (L.proj t) (ix2 r d) = C.tile s h r d := by
  rw [head_at, proj_at A]
  unfold Chunk.tile
  congr 2
  show 256 * (t : ℕ) + (128 * ((h : ℕ) % 2) + d) = _
  omega

/-- A head's turned tile. -/
theorem rot_at (v : FVec Ideal S128x128 .f32) (t : Fin 128 → Fin 128 → EReal) (hv : ∀ r d, v (ix2 r d) = t r d)
    (r d : Fin 128) : L.rot v (ix2 r d) = C.rot t r d := by
  pointwise [Loads.rot]
  simp only [hv, A.cos, A.sin, Chunk.rot]
  by_cases hd : (d : ℕ) < 64
  · simp only [dif_pos hd, sub_eq_add_neg, mul_neg]
    have h1 : (⟨((d : ℕ) + 128 - 64) % 128, by omega⟩ : Fin 128) = ⟨d + 64, by omega⟩ := Fin.mk_eq_mk.mpr (by omega)
    have h2 : (⟨(d : ℕ) % 64, by omega⟩ : Fin 64) = ⟨d, hd⟩ := Fin.mk_eq_mk.mpr (by omega)
    rw [h1, h2]
  · simp only [dif_neg hd]
    have h1 : (⟨((d : ℕ) + 128 - 64) % 128, by omega⟩ : Fin 128) = ⟨d - 64, by omega⟩ := Fin.mk_eq_mk.mpr (by omega)
    have h2 : (⟨(d : ℕ) % 64, by omega⟩ : Fin 64) = ⟨d - 64, by omega⟩ := Fin.mk_eq_mk.mpr (by omega)
    rw [h1, h2, add_comm]

/-- The queries. -/
theorem q_at (h : Fin 8) (r d : Fin 128) : L.q b h (ix2 r d) = C.q h r d :=
  rot_at A _ _ (fun r d => tile_at A 2 h _ rfl r d) r d

/-- The keys. -/
theorem k_at (h : Fin 8) (r d : Fin 128) : L.k b h (ix2 r d) = C.k h r d := by
  have := rot_at A _ _ (fun r d => tile_at A 3 h ⟨12 + (h : ℕ) / 2, by have := h.isLt; omega⟩ rfl r d) r d
  pointwise [Loads.k, Chunk.k]
  rw [this]
  exact congrArg (_ * ·) (IdealRules.named_const.ideal_named_scalar κ "k_scale" _ _ rfl)

/-- The values. -/
theorem v_at (h : Fin 8) (r d : Fin 128) : L.v b h (ix2 r d) = C.v h r d := by
  have := tile_at A 4 h ⟨16 + (h : ℕ) / 2, by have := h.isLt; omega⟩ rfl r d
  pointwise [Loads.v, Chunk.v]
  exact this

omit A in
/-- The log decays are the named constants. -/
theorem lg_at (h : Fin 8) : lg (F := Ideal) h = lgE h := by
  fin_cases h <;> rfl

omit A in
/-- The mask. -/
theorem dmask_at (h : Fin 8) (r m : Fin 128) : dmask (F := Ideal) h (ix2 r m) = mask h r m := by
  pointwise [dmask, dif, rowI, mask, pos]
  rw [lg_at]

omit A in
/-- The queries' decay. -/
theorem qdec_at (h : Fin 8) (r d : Fin 128) : qdec (F := Ideal) h (ix2 r d) = qdecE h r := by
  pointwise [qdec, rowI, qdecE, pos]
  rw [lg_at]

omit A in
/-- The keys' decay. -/
theorem kdec_at (h : Fin 8) (r d : Fin 128) : kdec (F := Ideal) h (ix2 r d) = kdecE h r := by
  pointwise [kdec, rowI, kdecE, pos]
  rw [lg_at]

/-- The state after the chunk. -/
theorem s1_at (hcd : ∀ (h : Fin 8) (d e : Fin 128), cd (F := Ideal) h (ix2 d e) = cdE h) (h : Fin 8)
    (S : Vec Ideal S1x1x128x128 .f32) (d e : Fin 128) :
    L.s1 b h S (ix4 0 0 d e) = C.s1 h (fun d e => S (ix4 0 0 d e)) d e := by
  pointwise [Loads.s1, Chunk.s1]
  simp only [hcd, k_at A, v_at A, kdec_at]

/-- The retention's output. -/
theorem o_at (h : Fin 8) (S : Vec Ideal S1x1x128x128 .f32) (r e : Fin 128) :
    L.o b h S (ix2 r e) = C.o h (fun d e => S (ix4 0 0 d e)) r e := by
  pointwise [Loads.o, Chunk.o]
  simp only [q_at A, k_at A, v_at A, qdec_at, dmask_at]

omit A in
/-- The gate on a head's tile. -/
theorem silu128_at (v : FVec Ideal S128x128 .f32) (r d : Fin 128) : silu128 v (ix2 r d) = silu (v (ix2 r d)) := by
  pointwise [silu128, silu]
  rw [zero_sub]

omit A in
/-- The gate on a wide tile. -/
theorem silu256_at (v : FVec Ideal S512x256 .f32) (r : Fin 512) (d : Fin 256) : silu256 v (ix2 r d) = silu (v (ix2 r d)) := by
  pointwise [silu256, silu]
  rw [zero_sub]

/-- A head's retention rows. -/
theorem rh_at (h : Fin 8) (S : Vec Ideal S1x1x128x128 .f32) (r e : Fin 128) :
    L.rh b h S (ix2 r e) = C.ret h (fun d e => S (ix4 0 0 d e)) r e := by
  have ht := tile_at A 5 h ⟨20 + (h : ℕ) / 2, by have := h.isLt; omega⟩ rfl r e
  pointwise [Loads.rh, Chunk.ret, inv]
  rw [silu128_at, ht]
  simp only [o_at A, A.rn]

/-- A batch's retention rows. -/
theorem rb_at (S : States Ideal) (r : Fin 128) (k : Fin 1024) :
    L.rb b S (ix2 r k) = C.ret ⟨k / 128, by omega⟩ (fun d e => S b ⟨k / 128, by omega⟩ (ix4 0 0 d e)) r ⟨k % 128, by omega⟩ := by
  rw [← rh_at A]
  obtain ⟨j, d, rfl⟩ : ∃ (j : Fin 8) (d : Fin 128), k = ⟨128 * j + d, by omega⟩ :=
    ⟨⟨k / 128, by omega⟩, ⟨k % 128, by omega⟩, Fin.ext (by show (k : ℕ) = 128 * (k / 128) + k % 128; omega)⟩
  have h1 : (⟨(128 * (j : ℕ) + d) / 128, by omega⟩ : Fin 8) = j := Fin.ext (by show (128 * (j : ℕ) + d) / 128 = j; omega)
  have h2 : (⟨(128 * (j : ℕ) + d) % 128, by omega⟩ : Fin 128) = d := Fin.ext (by show (128 * (j : ℕ) + d) % 128 = d; omega)
  show _ = L.rh b (⟨(128 * (j : ℕ) + d) / 128, by omega⟩ : Fin 8) (S b (⟨(128 * (j : ℕ) + d) / 128, by omega⟩ : Fin 8)) (ix2 r (⟨(128 * (j : ℕ) + d) % 128, by omega⟩ : Fin 128))
  rw [h1, h2]
  fin_cases j <;> pointwise [Loads.rb] <;>
    (repeat first | rw [dif_pos (by omega)] | rw [dif_neg (by omega)]) <;>
    exact congrArg _ (congrArg (ix2 r) (Fin.ext (by dsimp only; omega)))

/-- The pool's inputs. -/
theorem u_at (g : Fin 4) (r : Fin 128) (d : Fin 256) : L.u b g (ix2 r d) = C.p r ⟨256 * g + d, by omega⟩ := by
  have := proj_at A ⟨g, by omega⟩ r d
  pointwise [Loads.u, Loads.rows]
  exact this

/-- The kept pool rows. -/
theorem h1T_at (g : Fin 4) (i : Fin 16) (d : Fin 256) : L.h1T b g (ix3 0 i d) = C.keep i ⟨256 * g + d, by omega⟩ := by
  have := u_at A g ⟨112 + i, by omega⟩ d
  pointwise [Loads.h1T, Chunk.keep]
  exact this

end Cert.KernelIdeal
-- ==== Proof.Kern2.lean ====
module

public import proofs.«01_k».proof.Proof.Kern

/-! The kernel's pool and output rows, element by element, are the chunk's formulas. -/

@[expose] public section

set_option maxRecDepth 16384

noncomputable section

namespace Cert.KernelIdeal

open Idealize.ShloMosaic Idealize.SL.Sem

variable {L : Loads Ideal} {b : Fin 4} {C : Chunk} (A : Agrees L b C)

/-- Adding the rows `m` back doubles a trailing sum of `m` rows, at a row with enough rows before it. -/
theorem rollAdd_at (k : BitVec 32) (m : ℕ) (hk : k.toNat = m) (hm : m < 144) (hm0 : 0 < m) (d : Fin 256)
    (f v : FVec Ideal S144x256 .f32)
    (hf : ∀ n : Fin 144, m - 1 ≤ (n : ℕ) → f (ix2 n d) = ∑ j ∈ Finset.range m, v (ix2 ⟨n - j, by omega⟩ d))
    (n : Fin 144) (hn : m + m - 1 ≤ (n : ℕ)) :
    rollAdd k f (ix2 n d) = ∑ j ∈ Finset.range (m + m), v (ix2 ⟨n - j, by omega⟩ d) := by
  have hi : ((n : ℕ) + 144 - k.toNat % 144) % 144 = n - m := by omega
  pointwise [rollAdd]
  simp only [hi]
  rw [hf n (by omega), hf ⟨n - m, by omega⟩ (by dsimp only; omega), Finset.sum_range_add]
  refine congrArg _ (Finset.sum_congr rfl fun j _ => congrArg v (congrArg (fun i => ix2 i d) (Fin.ext ?_)))
  dsimp only
  omega

/-- The doubling sums are the window sums: a row's last 2, 4, 8 or 16 rows. -/
theorem winSum_at (g : Fin 4) (v : FVec Ideal S144x256 .f32) (r : Fin 128) (d : Fin 256) :
    winSum g v (ix2 ⟨16 + r, by omega⟩ d)
      = ∑ j ∈ Finset.range (2 ^ ((g : ℕ) + 1)), v (ix2 ⟨16 + r - j, by omega⟩ d) := by
  have h1 := rollAdd_at 1#32 1 rfl (by omega) (by omega) d v v (fun n _ => by simp)
  have h2 := rollAdd_at 2#32 2 rfl (by omega) (by omega) d _ v h1
  have h3 := rollAdd_at 4#32 4 rfl (by omega) (by omega) d _ v h2
  have h4 := rollAdd_at 8#32 8 rfl (by omega) (by omega) d _ v h3
  fin_cases g
  · exact h1 ⟨16 + r, by omega⟩ (by dsimp only; omega)
  · exact h2 ⟨16 + r, by omega⟩ (by dsimp only; omega)
  · exact h3 ⟨16 + r, by omega⟩ (by dsimp only; omega)
  · exact h4 ⟨16 + r, by omega⟩ (by dsimp only; omega)

include A

/-- The rows the pool sums over. -/
theorem ext_at (g : Fin 4) (H : Vec Ideal S1x16x256 .f32) (P : PoolRows)
    (hP : ∀ (i : Fin 16) (d : Fin 256), H (ix3 0 i d) = P i ⟨256 * g + d, by omega⟩) (n : Fin 144) (d : Fin 256) :
    concatenate S144x256 0 [⟨S16x256, shapeCast S16x256 H (by decide)⟩, ⟨S128x256, L.u b g⟩]
      Gen.concatenates_S16x256_S128x256_S144x256_d0 (ix2 n d) = C.ext P n ⟨256 * g + d, by omega⟩ := by
  pointwise [Chunk.ext]
  by_cases hn : (n : ℕ) < 16
  · rw [dif_pos hn, dif_pos hn, hP]
  · rw [dif_neg hn, dif_neg hn, u_at A]

/-- The pool's tile. -/
theorem pool_at (g : Fin 4) (H : Vec Ideal S1x16x256 .f32) (P : PoolRows)
    (hP : ∀ (i : Fin 16) (d : Fin 256), H (ix3 0 i d) = P i ⟨256 * g + d, by omega⟩) (r : Fin 128) (d : Fin 256) :
    L.pool b g H (ix2 r d) = Ideal.div (C.win P g ⟨256 * g + d, by omega⟩ r) (wlenE g) - C.p r ⟨256 * g + d, by omega⟩ := by
  have hw : wlen (F := Ideal) g = wlenE g := by fin_cases g <;> rfl
  pointwise [Loads.pool]
  rw [winSum_at, u_at A, hw]
  simp only [ext_at A g H P hP]
  rfl

/-- The pool's gated tile. -/
theorem pm_at (g : Fin 4) (H : Hists Ideal) (P : PoolRows)
    (hP : ∀ (g : Fin 4) (i : Fin 16) (d : Fin 256), H b g (ix3 0 i d) = P i ⟨256 * g + d, by omega⟩) (r : Fin 128) (d : Fin 256) :
    L.pm g H (ix2 ⟨128 * b + r, by omega⟩ d) = C.mix P r ⟨256 * g + d, by omega⟩ := by
  have h0 := pool_at A g (H b g) P (hP g) r d
  have h1 := proj_at A ⟨4 + g, by omega⟩ r d
  have hg : (⟨(256 * (g : ℕ) + d) / 256, by omega⟩ : Fin 4) = g := Fin.ext (by dsimp only; omega)
  have hm : C.mix P r ⟨256 * g + d, by omega⟩
      = (L.pool b g (H b g) (ix2 r d)) * C.ps ⟨256 * g + d, by omega⟩ * silu (C.p r ⟨1024 + (256 * g + d), by omega⟩) := by
    rw [h0]
    show (Ideal.div (C.win P (⟨(256 * (g : ℕ) + d) / 256, by omega⟩ : Fin 4) _ r) (wlenE (⟨(256 * (g : ℕ) + d) / 256, by omega⟩ : Fin 4)) - _) * _ * _ = _
    rw [hg]
  have h2 : L.proj ⟨4 + g, by omega⟩ (ix2 ⟨128 * b + r, by omega⟩ d) = C.p r ⟨1024 + (256 * g + d), by omega⟩ := by
    rw [h1]
    exact congrArg _ (Fin.ext (by dsimp only; omega))
  rw [hm, ← h2]
  clear hm h2 h1 h0 hP
  pointwise [Loads.pm]
  rw [silu256_at, A.ps]
  refine congrArg (· * _) (congrArg (· * _) ?_)
  fin_cases b <;> (repeat first | rw [dif_pos (by dsimp only; omega)] | rw [dif_neg (by dsimp only; omega)]) <;>
    exact congrArg _ (congrArg (fun i => ix2 i d) (Fin.ext (by dsimp only; omega)))

/-- A row with the pool's part of the output projection. -/
theorem acc_at (H : Hists Ideal) (P : PoolRows)
    (hP : ∀ (g : Fin 4) (i : Fin 16) (d : Fin 256), H b g (ix3 0 i d) = P i ⟨256 * g + d, by omega⟩) (r : Fin 128) (c : Fin 1024) :
    L.acc H (ix2 ⟨128 * b + r, by omega⟩ c) = C.x r c + ∑ k : Fin 1024, C.mix P r k * C.wo ⟨k, by omega⟩ c := by
  have key : ∀ k : Fin 1024, concatenate S512x1024 1 [⟨S512x256, L.pm 0 H⟩, ⟨S512x256, L.pm 1 H⟩, ⟨S512x256, L.pm 2 H⟩,
      ⟨S512x256, L.pm 3 H⟩] Gen.concatenates_S512x256_S512x256_S512x256_S512x256_S512x1024_d1
      (ix2 ⟨128 * b + r, by omega⟩ k) = C.mix P r k := by
    intro k
    obtain ⟨j, d, rfl⟩ : ∃ (j : Fin 4) (d : Fin 256), k = ⟨256 * j + d, by omega⟩ :=
      ⟨⟨k / 256, by omega⟩, ⟨k % 256, by omega⟩, Fin.ext (by dsimp only; omega)⟩
    rw [← pm_at A j H P hP r d]
    fin_cases j <;> pointwise <;>
      (repeat first | rw [dif_pos (by omega)] | rw [dif_neg (by omega)]) <;>
      exact congrArg _ (congrArg (ix2 _) (Fin.ext (by dsimp only; omega)))
  have hx := xr_at A r c
  have hw : ∀ k : Fin 1024, L.wout 0 (ix2 k c) = C.wo ⟨k, by omega⟩ c := by
    intro k
    refine (A.wo 0 k c).trans ?_
    exact congrArg (fun i => C.wo i c) (Fin.ext (by show 1024 * 0 + (k : ℕ) = k; omega))
  pointwise [Loads.acc]
  rw [hx]
  refine congrArg _ (Finset.sum_congr rfl fun k _ => ?_)
  rw [← key k, ← hw k]
  pointwise [Loads.wout]

end Cert.KernelIdeal
-- ==== Proof.Consts.lean ====
module

public import proofs.«01_k».proof.Proof.Tiles
public import proofs.«01_k».proof.Proof.Spec

/-! The constants the programs spell, as the numbers they denote: the chunk's length, the decays, and the chunk's
decay, which is the decay's 128th power. -/

@[expose] public section

set_option maxRecDepth 16384

noncomputable section

namespace Cert.Consts

open Idealize.ShloMosaic

/-- The chunk's length. -/
theorem ofBits_128 : Ideal.ofBits .f32 0x43000000#32 = ((128 : ℝ) : EReal) := by
  simp [Ideal.ofBits, Ideal.ieee, -EReal.coe_mul]; norm_num

/-- The keys' scale as the reference computes it. -/
theorem rsqrt_128 : Ideal.rsqrt (Ideal.ofBits .f32 0x43000000#32) = kscaleE := by
  rw [ofBits_128, Ideal.rsqrt_coe, if_neg (by norm_num), if_neg (by norm_num)]
  rfl

/-- The decays as the programs spell them. -/
def gammaBits (h : Fin 8) : BitVec 32 :=
  ![0x3F780000#32, 0x3F7C0000#32, 0x3F7E0000#32, 0x3F7F0000#32, 0x3F7F8000#32, 0x3F7FC000#32, 0x3F7FE000#32, 0x3F7FF000#32] h

/-- The decays. -/
def gamma (h : Fin 8) : ℝ := ![31 / 32, 63 / 64, 127 / 128, 255 / 256, 511 / 512, 1023 / 1024, 2047 / 2048, 4095 / 4096] h

/-- What the programs spell are the decays. -/
theorem ofBits_gamma (h : Fin 8) : Ideal.ofBits .f32 (gammaBits h) = ((gamma h : ℝ) : EReal) := by
  fin_cases h <;> simp [gammaBits, gamma, Ideal.ofBits, Ideal.ieee, -EReal.coe_mul] <;> norm_num

/-- The decays are positive. -/
theorem gamma_pos (h : Fin 8) : 0 < gamma h := by fin_cases h <;> simp [gamma] <;> norm_num

/-- The decays' logarithms. -/
theorem lgE_eq (h : Fin 8) : lgE h = ((Real.log (gamma h) : ℝ) : EReal) := by fin_cases h <;> rfl

/-- The logarithm of a decay as the programs spell it. -/
theorem log_gamma (h : Fin 8) : Ideal.log (Ideal.ofBits .f32 (gammaBits h)) = lgE h := by
  rw [ofBits_gamma, Ideal.log_coe, if_neg (not_le.mpr (gamma_pos h)), lgE_eq]

/-- A chunk's decay is the decay's 128th power. -/
theorem cdE_eq (h : Fin 8) : cdE h = (((gamma h) ^ 128 : ℝ) : EReal) := by
  rw [cdE, lgE_eq, ofBits_128, ← EReal.coe_mul, Ideal.exp_coe]
  congr 1
  rw [← Real.rpow_def_of_pos (gamma_pos h)]
  exact_mod_cast Real.rpow_natCast (gamma h) 128

end Cert.Consts

namespace Cert.KernelIdeal

open Idealize.ShloMosaic

/-- The kernel's chunk decays are the decays' 128th powers. -/
theorem cd_at (h : Fin 8) (d e : Fin 128) : cd (F := Ideal) h (ix2 d e) = cdE h := by
  by_cases h7 : h = 7
  · subst h7
    rfl
  rw [Consts.cdE_eq]
  fin_cases h
  · refine (IdealRules.named_const.ideal_named_scalar κ "chunk_decay_0" _ _ rfl).trans ?_
    exact congrArg _ (by simp only [Consts.gamma]; norm_num)
  · refine (IdealRules.named_const.ideal_named_scalar κ "chunk_decay_1" _ _ rfl).trans ?_
    exact congrArg _ (by simp only [Consts.gamma]; norm_num)
  · refine (IdealRules.named_const.ideal_named_scalar κ "chunk_decay_2" _ _ rfl).trans ?_
    exact congrArg _ (by simp only [Consts.gamma]; norm_num)
  · refine (IdealRules.named_const.ideal_named_scalar κ "chunk_decay_3" _ _ rfl).trans ?_
    exact congrArg _ (by simp only [Consts.gamma]; norm_num)
  · refine (IdealRules.named_const.ideal_named_scalar κ "chunk_decay_4" _ _ rfl).trans ?_
    exact congrArg _ (by simp only [Consts.gamma]; norm_num)
  · refine (IdealRules.named_const.ideal_named_scalar κ "chunk_decay_5" _ _ rfl).trans ?_
    exact congrArg _ (by simp only [Consts.gamma]; norm_num)
  · refine (IdealRules.named_const.ideal_named_scalar κ "chunk_decay_6" _ _ rfl).trans ?_
    exact congrArg _ (by simp only [Consts.gamma]; norm_num)
  · exact absurd rfl h7

end Cert.KernelIdeal
-- ==== Proof.Kern3.lean ====
module

public import proofs.«01_k».proof.Proof.Kern2
public import proofs.«01_k».proof.Proof.Consts

/-! The kernel's output rows, sample states and last pool inputs, element by element. -/

@[expose] public section

set_option maxRecDepth 16384

noncomputable section

namespace Cert.KernelIdeal

open Idealize.ShloMosaic Idealize.SL.Sem

variable {L : Loads Ideal} {b : Fin 4} {C : Chunk} (A : Agrees L b C)

/-- Two batches' rows, normed. -/
theorem nrm_at (v : FVec Ideal S256x1024 .f32) (a : Fin 2) (r : Fin 128) (c : Fin 1024) :
    L.nrm v (ix3 a r c) = v (ix2 ⟨128 * a + r, by omega⟩ c)
      * inv (Ideal.ofBits .f32 0x44800000#32) (fun k : Fin 1024 => v (ix2 ⟨128 * a + r, by omega⟩ k)) * L.fn (ix2 0 c) := by
  pointwise [Loads.nrm, inv]
  simp only [Nat.mul_comm (a : ℕ) 128]

include A

/-- The output rows before the norm. -/
theorem pre_at (S : States Ideal) (H : Hists Ideal) (T : Fin 8 → HeadState) (P : PoolRows)
    (hS : ∀ (h : Fin 8) (d e : Fin 128), S b h (ix4 0 0 d e) = T h d e)
    (hP : ∀ (g : Fin 4) (i : Fin 16) (d : Fin 256), H b g (ix3 0 i d) = P i ⟨256 * g + d, by omega⟩) (r : Fin 128) (c : Fin 1024) :
    L.pre ⟨b / 2, by omega⟩ (L.acc H) (L.rb ⟨2 * (b / 2), by omega⟩ S) (L.rb ⟨2 * (b / 2) + 1, by omega⟩ S)
      (ix2 ⟨128 * (b % 2) + r, by omega⟩ c) = C.pre T P r c := by
  have ha := acc_at A H P hP r c
  have hk : ∀ k : Fin 1024, concatenate S256x1024 0 [⟨S128x1024, L.rb ⟨2 * (b / 2), by omega⟩ S⟩,
      ⟨S128x1024, L.rb ⟨2 * (b / 2) + 1, by omega⟩ S⟩] Gen.concatenates_S128x1024_S128x1024_S256x1024_d0
      (ix2 ⟨128 * (b % 2) + r, by omega⟩ k) = C.ret ⟨k / 128, by omega⟩ (T ⟨k / 128, by omega⟩) r ⟨k % 128, by omega⟩ := by
    intro k
    have hT : T ⟨k / 128, by omega⟩ = fun d e => S b ⟨k / 128, by omega⟩ (ix4 0 0 d e) := by
      funext d e
      exact (hS _ d e).symm
    rw [hT, ← rb_at A S r k]
    clear hT ha hS hP A
    pointwise
    fin_cases b <;> (repeat first | rw [dif_pos (by dsimp only; omega)] | rw [dif_neg (by dsimp only; omega)]) <;>
      exact congrArg _ (congrArg (fun i => ix2 i k) (Fin.ext (by dsimp only; omega)))
  have hw : ∀ k : Fin 1024, L.wout 1 (ix2 k c) = C.wo ⟨1024 + k, by omega⟩ c := fun k => A.wo 1 k c
  have hi : (⟨256 * ((b : ℕ) / 2) + (128 * ((b : ℕ) % 2) + r), by omega⟩ : Fin 512) = ⟨128 * b + r, by omega⟩ :=
    Fin.ext (by dsimp only; omega)
  rw [Chunk.pre, ← add_assoc, ← ha, ← hi]
  pointwise [Loads.pre]
  refine congrArg _ (Finset.sum_congr rfl fun k _ => ?_)
  rw [← hk k, ← hw k]
  pointwise [Loads.wout]

/-- The output rows. -/
theorem yT_at (S : States Ideal) (H : Hists Ideal) (T : Fin 8 → HeadState) (P : PoolRows)
    (hS : ∀ (h : Fin 8) (d e : Fin 128), S b h (ix4 0 0 d e) = T h d e)
    (hP : ∀ (g : Fin 4) (i : Fin 16) (d : Fin 256), H b g (ix3 0 i d) = P i ⟨256 * g + d, by omega⟩) (r : Fin 128) (c : Fin 1024) :
    L.yT ⟨b / 2, by omega⟩ S H (ix3 ⟨b % 2, by omega⟩ r c) = C.y T P r c := by
  rw [Loads.yT, nrm_at]
  simp only [pre_at A S H T P hS hP]
  rw [A.fn]
  rfl

/-- The last pool inputs, from the rows and the weights of their projection. -/
theorem pb_at (wu : Fin 1024 → Fin 1024 → EReal)
    (hwu : ∀ k c : Fin 1024, Ideal.ofBits .bf16 (bitcast S1024x1024 16 L.wu (by decide) (ix2 k c)) = wu k c) (i : Fin 15) (c : Fin 1024) :
    L.pb b (ix3 0 i c) = ∑ k : Fin 1024, C.hn ⟨113 + i, by omega⟩ k * wu k c := by
  have hh : ∀ k : Fin 1024, concatenate S64x1024 0 [⟨S16x1024, L.lastH 0⟩, ⟨S16x1024, L.lastH 1⟩, ⟨S16x1024, L.lastH 2⟩,
      ⟨S16x1024, L.lastH 3⟩] Gen.concatenates_S16x1024_S16x1024_S16x1024_S16x1024_S64x1024_d0
      (ix2 ⟨16 * b + 1 + i, by omega⟩ k) = C.hn ⟨113 + i, by omega⟩ k := by
    intro k
    rw [← hb_at A]
    clear A
    pointwise [Loads.lastH]
    fin_cases b <;> (repeat first | rw [dif_pos (by dsimp only; omega)] | rw [dif_neg (by dsimp only; omega)]) <;>
      exact congrArg _ (congrArg (fun i => ix2 i k) (Fin.ext (by dsimp only; omega)))
  pointwise [Loads.pb]
  refine Finset.sum_congr rfl fun k _ => ?_
  rw [← hh k, ← hwu k c]
  pointwise

omit A in
/-- The decays the kernel spells. -/
theorem gam_at (h : Fin 8) : gam (F := Ideal) h = Ideal.ofBits .f32 (Consts.gammaBits h) := by
  fin_cases h <;> rfl

omit A in
/-- A sample's state. -/
theorem so_at (j : Fin 4) (h : Fin 8) (d e : Fin 128) :
    L.so j h (ix4 0 0 d e) = gam h * L.st h (ix4 j 0 d e) + L.kq h (ix3 0 ⟨j, by omega⟩ d) * L.vq h (ix3 0 ⟨j, by omega⟩ e) := by
  pointwise [Loads.so]

end Cert.KernelIdeal
-- ==== Proof.Vals.lean ====
module

public import proofs.«01_k».proof.Proof.Canon
public import proofs.«01_k».proof.Proof.Kern3

/-! The elements a grid point's stores leave, as the chunk's values. -/

@[expose] public section

noncomputable section

namespace Cert.KernelIdeal

open Idealize.ShloMosaic Idealize.SL.Sem

variable {L : Loads Ideal} {b : Fin 4} {C : Chunk} (A : Agrees L b C)

include A

/-- The output rows left. -/
theorem canon_yL (S : States Ideal) (H : Hists Ideal) (T : Fin 8 → HeadState) (P : PoolRows)
    (hS : ∀ (h : Fin 8) (d e : Fin 128), S b h (ix4 0 0 d e) = T h d e)
    (hP : ∀ (g : Fin 4) (i : Fin 16) (d : Fin 256), H b g (ix3 0 i d) = P i ⟨256 * g + d, by omega⟩) (r : Fin 128) (c : Fin 1024) :
    View.canon (L.yL S H) (ix3 b r c) = C.y T P r c :=
  (canon_rows (fun p => L.yT p S H) b r c).trans (yT_at A S H T P hS hP r c)

/-- The prompt states left. -/
theorem canon_sL (S : States Ideal) (I : List (View.Piece (Elt Ideal) S4x8x128x128 .f32)) (T : Fin 8 → HeadState)
    (hS : ∀ (h : Fin 8) (d e : Fin 128), S b h (ix4 0 0 d e) = T h d e) (h : Fin 8) (d e : Fin 128) :
    View.canon (L.sL S ++ I) (ix4 b h d e) = C.s1 h (T h) d e := by
  refine (canon_heads (fun b h => L.s1 b h (S b h)) I b h d e).trans ?_
  refine (s1_at A cd_at h (S b h) d e).trans ?_
  exact congrArg (fun X => C.s1 h X d e) (funext fun d => funext fun e => hS h d e)

/-- The kept pool rows left. -/
theorem canon_hL (I : List (View.Piece (Elt Ideal) S4x16x1024 .f32)) (i : Fin 16) (c : Fin 1024) :
    View.canon (L.hL ++ I) (ix3 b i c) = C.keep i c := by
  have hc : c = ⟨256 * ((⟨c / 256, by omega⟩ : Fin 4) : ℕ) + ((⟨c % 256, by omega⟩ : Fin 256) : ℕ), by dsimp only; omega⟩ :=
    Fin.ext (by dsimp only; omega)
  have h := (canon_groups (fun b g => L.h1T b g) I b ⟨c / 256, by omega⟩ i ⟨c % 256, by omega⟩).trans (h1T_at A _ i _)
  rw [← hc] at h
  exact h

/-- The last pool rows left. -/
theorem canon_pbL (wu : Fin 1024 → Fin 1024 → EReal)
    (hwu : ∀ k c : Fin 1024, Ideal.ofBits .bf16 (bitcast S1024x1024 16 L.wu (by decide) (ix2 k c)) = wu k c) (i : Fin 15) (c : Fin 1024) :
    View.canon L.pbL (ix3 b i c) = ∑ k : Fin 1024, C.hn ⟨113 + i, by omega⟩ k * wu k c :=
  (canon_tails (fun b => L.pb b) b i c).trans (pb_at A wu hwu i c)

omit A in
/-- The sample states left. -/
theorem canon_soL (j : Fin 4) (h : Fin 8) (d e : Fin 128) :
    View.canon L.soL (ix4 j h d e)
      = gam (F := Ideal) h * L.st h (ix4 j 0 d e) + L.kq h (ix3 0 ⟨j, by omega⟩ d) * L.vq h (ix3 0 ⟨j, by omega⟩ e) := by
  have h1 := canon_heads (fun b h => L.so b h) [] j h d e
  rw [List.append_nil] at h1
  exact h1.trans (so_at j h d e)

omit A in
/-- A state loaded from the state window. -/
theorem stOf_at (arg17 : Memref sig .tc .vmem S4x8x128x128 .f32) (harg17 : arg17.IsWhole) (X : Vec Ideal S4x8x128x128 .f32)
    (b : Fin 4) (h : Fin 8) (d e : Fin 128) : stOf arg17 harg17 X b h (ix4 0 0 d e) = X (ix4 b h d e) := by
  rw [stOf, Memref.IsWhole.readAt_unread]
  exact congrArg X (rS_emb b h d e)

omit A in
/-- Recent pool rows loaded from the kept rows. -/
theorem hsOf_at (arg21 : Memref sig .tc .vmem S4x16x1024 .f32) (harg21 : arg21.IsWhole) (X : Vec Ideal S4x16x1024 .f32)
    (b g : Fin 4) (i : Fin 16) (d : Fin 256) : hsOf arg21 harg21 X b g (ix3 0 i d) = X (ix3 b i ⟨256 * g + d, by omega⟩) := by
  rw [hsOf, Memref.IsWhole.readAt_unread]
  exact congrArg X (rH_emb b g i d)

end Cert.KernelIdeal
-- ==== Proof.Seq.lean ====
module

public import proofs.«01_k».proof.Proof.Spec
public import proofs.«01_k».proof.Proof.Consts
public import Idealize.ShloMosaic.Lib.BitcastPair

/-! A sequence of the batch, chunk by chunk: the chunks' rows and parameters out of the argument arrays, the states and
the kept pool rows the chunks pass on. -/

@[expose] public section

noncomputable section

namespace Cert

open Idealize.ShloMosaic

/-- The argument arrays both programs read. -/
structure Inputs where
  x : FVec Ideal ⟨3, ![8, 2048, 1024]⟩ .f32
  cos : FVec Ideal ⟨2, ![2048, 64]⟩ .f32
  sin : FVec Ideal ⟨2, ![2048, 64]⟩ .f32
  smeta : FVec Ideal ⟨3, ![8, 128, 128]⟩ .f32
  umeta : FVec Ideal ⟨2, ![16, 1024]⟩ .f32
  nw : FVec Ideal ⟨2, ![1, 1024]⟩ .f32
  ps : FVec Ideal ⟨2, ![1, 1024]⟩ .f32
  rn : FVec Ideal ⟨2, ![1, 1024]⟩ .f32
  fn : FVec Ideal ⟨2, ![1, 1024]⟩ .f32
  win : IVec ⟨2, ![512, 6144]⟩ 32
  wu : IVec ⟨2, ![512, 1024]⟩ 32
  wout : IVec ⟨2, ![1024, 1024]⟩ 32
  qkv : FVec Ideal ⟨3, ![32, 8, 3072]⟩ .f32
  st : FVec Ideal ⟨4, ![128, 8, 128, 128]⟩ .f32

/-- The weight in a word's low (`k` even) or high half. -/
def half (w : BitVec 32) (k : ℕ) : EReal := Ideal.ofBits .bf16 (w.extractLsb' (k % 2 * 16) 16)

namespace Inputs

variable (a : Inputs)

/-- Sequence `B`'s chunk `T`. -/
def chunk (B : Fin 8) (T : ℕ) : Chunk where
  x r c := a.x (ix3 B ⟨128 * (T % 16) + r, by omega⟩ c)
  cos r d := a.cos (ix2 ⟨128 * (T % 16) + r, by omega⟩ d)
  sin r d := a.sin (ix2 ⟨128 * (T % 16) + r, by omega⟩ d)
  nw c := a.nw (ix2 0 c)
  ps c := a.ps (ix2 0 c)
  rn c := a.rn (ix2 0 c)
  fn c := a.fn (ix2 0 c)
  w k j := half (a.win (ix2 ⟨k / 2, by omega⟩ j)) k
  wo k j := half (a.wout (ix2 ⟨k / 2, by omega⟩ j)) k

/-- The states a sequence's chunk `T` starts from. -/
def state (B : Fin 8) : ℕ → Fin 8 → HeadState
  | 0 => fun h d e => a.smeta (ix3 h d e)
  | T + 1 => fun h => (a.chunk B T).s1 h (state B T h)

/-- The pool rows kept when a sequence's chunk `T` starts. -/
def rows (B : Fin 8) : ℕ → PoolRows
  | 0 => fun i c => a.umeta (ix2 i c)
  | T + 1 => (a.chunk B T).keep

/-- The output of a sequence's chunk `T`. -/
def out (B : Fin 8) (T : ℕ) (r : Fin 128) (c : Fin 1024) : EReal := (a.chunk B T).y (a.state B T) (a.rows B T) r c

/-- A sequence's last pool rows, through the pool's own weights. -/
def tail (B : Fin 8) (i : Fin 15) (c : Fin 1024) : EReal :=
  ∑ k : Fin 1024, (a.chunk B 15).hn ⟨113 + i, by omega⟩ k * half (a.wu (ix2 ⟨k / 2, by omega⟩ c)) k

/-- A sample's state after its step. -/
def sample (n : Fin 128) (h : Fin 8) (d e : Fin 128) : EReal :=
  Ideal.ofBits .f32 (Consts.gammaBits h) * a.st (ix4 n h d e)
    + a.qkv (ix3 (⟨n / 4, by omega⟩ : Fin 32) (⟨n % 4, by omega⟩ : Fin 8) ⟨1024 + 128 * h + d, by omega⟩)
      * a.qkv (ix3 (⟨n / 4, by omega⟩ : Fin 32) (⟨n % 4, by omega⟩ : Fin 8) ⟨2048 + 128 * h + e, by omega⟩)

end Inputs

/-- A pair of weights read back out of the words. -/
theorem bitcast_half {n n' k : ℕ} (x : IVec ⟨2, ![n, k]⟩ 32) (h : (⟨2, ![n, k]⟩ : Shape).Bitcasts 32 ⟨2, ![n', k]⟩ 16)
    (i : Fin n') (j : Fin k) (hi : (i : ℕ) / 2 < n) :
    Ideal.ofBits .bf16 (bitcast ⟨2, ![n', k]⟩ 16 x h (ix2 i j)) = half (x (ix2 ⟨i / 2, hi⟩ j)) i := by
  rw [half]
  refine congrArg (Ideal.ofBits .bf16) (BitVec.eq_of_getLsbD_eq fun q hq => ?_)
  rw [bitcast_getLsbD x h (ix2 i j) q hq (by decide), BitVec.getLsbD_extractLsb']
  have hr : (⟨2, ![n', k]⟩ : Shape).row (ix2 i j) = i := rfl
  have e : ∀ p hp, p = (i : ℕ) / 2 → h.srcIdx (ix2 i j) p hp = ix2 ⟨i / 2, hi⟩ j := by
    rintro p hp rfl
    funext a
    apply Fin.ext
    fin_cases a
    · exact h.srcIdx_row _ _ hp _ rfl
    · exact h.srcIdx_other _ _ hp _ (by show ¬(1 + 2 = 2); decide)
  rw [e _ _ (by rw [hr]; omega), hr]
  simp only [hq, decide_true, Bool.true_and]
  congr 1
  omega

end Cert
-- ==== Proof.Blocks.lean ====
module

public import proofs.«01_k».proof.Proof.Point
public import proofs.«01_k».proof.Proof.Vals
public import proofs.«01_k».proof.Proof.Seq
public import proofs.«01_k».proof.Proof.Gen.KernelIdeal.Value
public import Idealize.ShloMosaic.Lib.Pipeline.ValueKit

/-! What a grid point's windows hold, from the argument arrays. -/

@[expose] public section

set_option maxRecDepth 16384

noncomputable section

namespace Cert.KernelIdeal

open Idealize.ShloMosaic Idealize.ShloMosaic.TcCoe Idealize.SL Idealize.SL.Sem

/-- Which block of each array a point reads. -/
theorem idxs : ∀ t : Fin cfg0.N, win0_0.index t = ![t.val / 16, t.val % 16, 0] ∧ win0_1.index t = ![t.val % 16, 0] ∧ win0_2.index t = ![t.val % 16, 0]
    ∧ win0_3.index t = ![0, 0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val, 0, 0] ∧ win0_13.index t = ![t.val, 0, 0, 0] := (by decide +kernel : ∀ t : Fin grid0.N, _)

variable (m : (ℓ : Loc nD τ sig) → Buf (Elt Ideal) ℓ) (c : Dev nD) (t : Fin cfg0.N)

/-- The argument arrays. -/
def inputs : Inputs where
  x := m ((c : Thread nD τ).loc main_arg0)
  cos := m ((c : Thread nD τ).loc main_arg1)
  sin := m ((c : Thread nD τ).loc main_arg2)
  smeta := m ((c : Thread nD τ).loc main_arg3)
  umeta := m ((c : Thread nD τ).loc main_arg4)
  nw := m ((c : Thread nD τ).loc main_arg5)
  ps := m ((c : Thread nD τ).loc main_arg6)
  rn := m ((c : Thread nD τ).loc main_arg7)
  fn := m ((c : Thread nD τ).loc main_arg8)
  win := m ((c : Thread nD τ).loc main_arg9)
  wu := m ((c : Thread nD τ).loc main_arg10)
  wout := m ((c : Thread nD τ).loc main_arg11)
  qkv := m ((c : Thread nD τ).loc main_arg12)
  st := m ((c : Thread nD τ).loc main_arg13)

/-- There are 32 points. -/
theorem lt_points : t.val < 32 := lt_of_lt_of_eq t.isLt Gen.N_0

/-- The cosines, once for each half of a head. -/
theorem V_cos : Gen.V m c main_v0 = concatenate S2048x128 1 [⟨S2048x64, (inputs m c).cos⟩, ⟨S2048x64, (inputs m c).cos⟩]
    Gen.concatenates_S2048x64_S2048x64_S2048x128_d1 := rfl

/-- The sines, those of the first half with the sign turned. -/
theorem V_sin : Gen.V m c main_v2 = concatenate S2048x128 1 [⟨S2048x64, Host.negf (F := Ideal) (inputs m c).sin⟩, ⟨S2048x64, (inputs m c).sin⟩]
    Gen.concatenates_S2048x64_S2048x64_S2048x128_d1 := rfl

/-- A block of rows. -/
theorem blk_x (b : Fin 4) (r : Fin 128) (k : Fin 1024) : Gen.iblk m c 0 t (ix3 b r k)
    = (inputs m c).x (ix3 (⟨4 * (t.val / 16) + b, by have := lt_points t; omega⟩ : Fin 8) (⟨128 * (t.val % 16) + r, by omega⟩ : Fin 2048) k) := by
  blk_point [Gen.iblk, Gen.V, inputs, (idxs t).1]

/-- A block of the widened cosines. -/
theorem blk_cos (r d : Fin 128) : Gen.iblk m c 1 t (ix2 r d)
    = (inputs m c).cos (ix2 (⟨128 * (t.val % 16) + r, by omega⟩ : Fin 2048) (⟨d % 64, by omega⟩ : Fin 64)) := by
  refine Eq.trans (b := Gen.V m c main_v0 (ix2 (⟨128 * (t.val % 16) + r, by omega⟩ : Fin 2048) d)) ?_ ?_
  · blk_point [Gen.iblk, (idxs t).2.1]
  · rw [V_cos]
    pointwise
    split
    · exact congrArg _ (congrArg (ix2 _) (Fin.ext (by dsimp only; omega)))
    · exact congrArg _ (congrArg (ix2 _) (Fin.ext (by dsimp only; omega)))

/-- A block of the widened sines. -/
theorem blk_sin (r d : Fin 128) : Gen.iblk m c 2 t (ix2 r d)
    = if hd : (d : ℕ) < 64 then -(inputs m c).sin (ix2 (⟨128 * (t.val % 16) + r, by omega⟩ : Fin 2048) (⟨d, hd⟩ : Fin 64))
      else (inputs m c).sin (ix2 (⟨128 * (t.val % 16) + r, by omega⟩ : Fin 2048) (⟨d - 64, by omega⟩ : Fin 64)) := by
  refine Eq.trans (b := Gen.V m c main_v2 (ix2 (⟨128 * (t.val % 16) + r, by omega⟩ : Fin 2048) d)) ?_ ?_
  · blk_point [Gen.iblk, (idxs t).2.2.1]
  · rw [V_sin]
    pointwise

/-- The first states, whole. -/
theorem blk_smeta (h : Fin 8) (d e : Fin 128) : Gen.iblk m c 3 t (ix3 h d e) = (inputs m c).smeta (ix3 h d e) := by
  blk_point [Gen.iblk, Gen.V, inputs, (idxs t).2.2.2.1]

/-- The first pool rows, whole. -/
theorem blk_umeta (i : Fin 16) (k : Fin 1024) : Gen.iblk m c 4 t (ix2 i k) = (inputs m c).umeta (ix2 i k) := by
  blk_point [Gen.iblk, Gen.V, inputs, (idxs t).2.2.2.2.1]

/-- The first norm's weight, whole. -/
theorem blk_nw (k : Fin 1024) : Gen.iblk m c 5 t (ix2 0 k) = (inputs m c).nw (ix2 0 k) := by
  blk_point [Gen.iblk, Gen.V, inputs, (idxs t).2.2.2.2.2.1]

/-- The pool's scale, whole. -/
theorem blk_ps (k : Fin 1024) : Gen.iblk m c 6 t (ix2 0 k) = (inputs m c).ps (ix2 0 k) := by
  blk_point [Gen.iblk, Gen.V, inputs, (idxs t).2.2.2.2.2.2.1]

/-- The retention norm's weight, whole. -/
theorem blk_rn (k : Fin 1024) : Gen.iblk m c 7 t (ix2 0 k) = (inputs m c).rn (ix2 0 k) := by
  blk_point [Gen.iblk, Gen.V, inputs, (idxs t).2.2.2.2.2.2.2.1]

/-- The last norm's weight, whole. -/
theorem blk_fn (k : Fin 1024) : Gen.iblk m c 8 t (ix2 0 k) = (inputs m c).fn (ix2 0 k) := by
  blk_point [Gen.iblk, Gen.V, inputs, (idxs t).2.2.2.2.2.2.2.2.1]

/-- The packed input weights, whole. -/
theorem blk_win (k : Fin 512) (j : Fin 6144) : Gen.iblk m c 9 t (ix2 k j) = (inputs m c).win (ix2 k j) := by
  blk_point [Gen.iblk, Gen.V, inputs, (idxs t).2.2.2.2.2.2.2.2.2.1]

/-- The pool's packed weights, whole. -/
theorem blk_wu (k : Fin 512) (j : Fin 1024) : Gen.iblk m c 10 t (ix2 k j) = (inputs m c).wu (ix2 k j) := by
  blk_point [Gen.iblk, Gen.V, inputs, (idxs t).2.2.2.2.2.2.2.2.2.2.1]

/-- The packed output weights, whole. -/
theorem blk_wout (k j : Fin 1024) : Gen.iblk m c 11 t (ix2 k j) = (inputs m c).wout (ix2 k j) := by
  blk_point [Gen.iblk, Gen.V, inputs, (idxs t).2.2.2.2.2.2.2.2.2.2.2.1]

/-- A block of the samples' projections. -/
theorem blk_qkv (j : Fin 8) (k : Fin 3072) : Gen.iblk m c 12 t (ix3 0 j k)
    = (inputs m c).qkv (ix3 (⟨t.val, lt_points t⟩ : Fin 32) j k) := by
  blk_point [Gen.iblk, Gen.V, inputs, (idxs t).2.2.2.2.2.2.2.2.2.2.2.2.1]

/-- A block of the samples' states. -/
theorem blk_st (j : Fin 4) (h : Fin 8) (d e : Fin 128) : Gen.iblk m c 13 t (ix4 j h d e)
    = (inputs m c).st (ix4 (⟨4 * t.val + j, by have := lt_points t; omega⟩ : Fin 128) h d e) := by
  blk_point [Gen.iblk, Gen.V, inputs, (idxs t).2.2.2.2.2.2.2.2.2.2.2.2.2]

/-- The sequence of a batch of a point. -/
def seq (b : Fin 4) : Fin 8 := ⟨4 * (t.val / 16) + b, by have := lt_points t; omega⟩

/-- What a point loads is its chunks' data. -/
theorem agrees (b : Fin 4) : Agrees (ld m c t) b ((inputs m c).chunk (seq t b) (t.val % 16)) := by
  have hT : t.val % 16 % 16 = t.val % 16 := by omega
  refine ⟨fun r k => ?_, fun r d => ?_, fun r d => ?_, fun k => ?_, fun k => ?_, fun g d => ?_, fun h e => ?_, fun p k d => ?_, fun p k j => ?_⟩
  · refine (Memref.IsWhole.readAt_unread (Gen.hs0_0 t) _ _ _).trans ((congrArg _ ?_).trans ((blk_x m c t b r k).trans ?_))
    · funext a
      apply Fin.ext
      fin_cases a <;> simp [ix3]
    · exact congrArg (fun i => (inputs m c).x (ix3 _ i k)) (Fin.ext (by dsimp only; omega))
  · refine (Memref.IsWhole.readAt_unread (Gen.hs0_1 t) _ _ _).trans ((congrArg _ ?_).trans ((blk_cos m c t r d).trans ?_))
    · funext a
      apply Fin.ext
      fin_cases a <;> simp [ix2]
    · exact congrArg (fun i => (inputs m c).cos (ix2 i _)) (Fin.ext (by dsimp only; omega))
  · refine (Memref.IsWhole.readAt_unread (Gen.hs0_2 t) _ _ _).trans ((congrArg _ ?_).trans ((blk_sin m c t r d).trans ?_))
    · funext a
      apply Fin.ext
      fin_cases a <;> simp [ix2]
    · dsimp only [Inputs.chunk]
      simp only [hT]
  · refine (Memref.IsWhole.readAt_unread (Gen.hs0_5 t) _ _ _).trans ((congrArg _ ?_).trans (blk_nw m c t k))
    funext a
    apply Fin.ext
    fin_cases a <;> simp [ix2]
  · refine (Memref.IsWhole.readAt_unread (Gen.hs0_8 t) _ _ _).trans ((congrArg _ ?_).trans (blk_fn m c t k))
    funext a
    apply Fin.ext
    fin_cases a <;> simp [ix2]
  · refine (Memref.IsWhole.readAt_unread (Gen.hs0_6 t) _ _ _).trans ((congrArg _ ?_).trans (blk_ps m c t _))
    funext a
    apply Fin.ext
    fin_cases a <;> simp [ix2]
  · refine (Memref.IsWhole.readAt_unread (Gen.hs0_7 t) _ _ _).trans ((congrArg _ ?_).trans (blk_rn m c t _))
    funext a
    apply Fin.ext
    fin_cases a <;> simp [ix2]
  · refine (bitcast_half _ _ k d (by omega)).trans ?_
    refine congrArg (fun w => half w k) ?_
    refine (Memref.IsWhole.readAt_unread (Gen.hs0_9 t) _ _ _).trans ((congrArg _ ?_).trans (blk_win m c t ⟨k / 2, by omega⟩ ⟨256 * p + d, by omega⟩))
    funext a
    apply Fin.ext
    fin_cases a <;> simp [ix2]
  · refine (bitcast_half _ _ k j (by omega)).trans ?_
    have hk : half ((inputs m c).wout (ix2 (⟨512 * p + k / 2, by omega⟩ : Fin 1024) j)) k
        = half ((inputs m c).wout (ix2 (⟨(1024 * p + k) / 2, by omega⟩ : Fin 1024) j)) (1024 * p + k) := by
      have e1 : (⟨512 * p + k / 2, by omega⟩ : Fin 1024) = ⟨(1024 * p + k) / 2, by omega⟩ := Fin.ext (by dsimp only; omega)
      have e2 : (k : ℕ) % 2 = (1024 * p + k) % 2 := by omega
      rw [half, half, e1, e2]
    refine Eq.trans (congrArg (fun w => half w k) ?_) hk
    refine (Memref.IsWhole.readAt_unread (Gen.hs0_11 t) _ _ _).trans ((congrArg _ ?_).trans (blk_wout m c t ⟨512 * p + k / 2, by omega⟩ j))
    funext a
    apply Fin.ext
    fin_cases a <;> simp [ix2]

/-- The pool's weights a point loads. -/
theorem wu_at (k j : Fin 1024) : Ideal.ofBits .bf16 (bitcast S1024x1024 16 (ld m c t).wu (by decide) (ix2 k j))
    = half ((inputs m c).wu (ix2 ⟨k / 2, by omega⟩ j)) k := by
  refine (bitcast_half _ _ k j (by omega)).trans (congrArg (fun w => half w k) ?_)
  refine (Memref.IsWhole.readAt_unread (Gen.hs0_10 t) _ _ _).trans ((congrArg _ ?_).trans (blk_wu m c t ⟨k / 2, by omega⟩ j))
  funext a
  apply Fin.ext
  fin_cases a <;> simp [ix2]

/-- A sample's keys a point loads. -/
theorem kq_at (h : Fin 8) (j : Fin 8) (d : Fin 128) : (ld m c t).kq h (ix3 0 j d)
    = (inputs m c).qkv (ix3 (⟨t.val, lt_points t⟩ : Fin 32) j ⟨1024 + 128 * h + d, by omega⟩) := by
  refine (Memref.IsWhole.readAt_unread (Gen.hs0_12 t) _ _ _).trans ((congrArg _ ?_).trans (blk_qkv m c t j ⟨1024 + 128 * h + d, by omega⟩))
  funext a
  apply Fin.ext
  fin_cases a <;> simp [ix3]

/-- A sample's values a point loads. -/
theorem vq_at (h : Fin 8) (j : Fin 8) (d : Fin 128) : (ld m c t).vq h (ix3 0 j d)
    = (inputs m c).qkv (ix3 (⟨t.val, lt_points t⟩ : Fin 32) j ⟨2048 + 128 * h + d, by omega⟩) := by
  refine (Memref.IsWhole.readAt_unread (Gen.hs0_12 t) _ _ _).trans ((congrArg _ ?_).trans (blk_qkv m c t j ⟨2048 + 128 * h + d, by omega⟩))
  funext a
  apply Fin.ext
  fin_cases a <;> simp [ix3]

/-- A sample's state a point loads. -/
theorem ss_at (j : Fin 4) (h : Fin 8) (d e : Fin 128) : (ld m c t).st h (ix4 j 0 d e)
    = (inputs m c).st (ix4 (⟨4 * t.val + j, by have := lt_points t; omega⟩ : Fin 128) h d e) := by
  refine (Memref.IsWhole.readAt_unread (Gen.hs0_13 t) _ _ _).trans ((congrArg _ ?_).trans (blk_st m c t j h d e))
  funext a
  apply Fin.ext
  fin_cases a <;> simp [ix4]

end Cert.KernelIdeal
-- ==== Proof.CaseAst.lean ====
module

public import proofs.«01_k».proof.Proof.CaseA

/-! What a first point of a sequence loads back: what it stored before. -/

@[expose] public section

set_option maxRecDepth 16384

noncomputable section

namespace Cert.KernelIdeal

open Idealize.ShloMosaic Idealize.SL.Sem

variable {F : FTy → Type} [FloatOps F] [Named F] (c : Dev nD) (i : grid0.Coords)
  (arg2 : Memref sig .tc .vmem S4x128x1024 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S8x128x128 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x6144 .i32) (harg11 : arg11.IsWhole) (arg12 : Memref sig .tc .vmem S512x1024 .i32) (harg12 : arg12.IsWhole) (arg13 : Memref sig .tc .vmem S1024x1024 .i32) (harg13 : arg13.IsWhole) (arg14 : Memref sig .tc .vmem S1x8x3072 .f32) (harg14 : arg14.IsWhole) (arg15 : Memref sig .tc .vmem S4x8x128x128 .f32) (harg15 : arg15.IsWhole) (arg16 : Memref sig .tc .vmem S4x128x1024 .f32) (harg16 : arg16.IsWhole) (arg17 : Memref sig .tc .vmem S4x8x128x128 .f32) (harg17 : arg17.IsWhole) (arg18 : Memref sig .tc .vmem S4x15x1024 .f32) (harg18 : arg18.IsWhole) (arg19 : Memref sig .tc .vmem S4x8x128x128 .f32) (harg19 : arg19.IsWhole) (arg20 : Memref sig .tc .vmem S1x8x1024 .f32) (harg20 : arg20.IsWhole) (arg21 : Memref sig .tc .vmem S4x16x1024 .f32) (harg21 : arg21.IsWhole)
  (hc0 : Gen.cond0_0 i) (hc1 : ¬Gen.cond0_1 i)
  (x0 : Vec F S4x128x1024 .f32) (x1 : Vec F S128x128 .f32) (x2 : Vec F S128x128 .f32) (x3 : Vec F S8x128x128 .f32) (x4 : Vec F S16x1024 .f32) (x5 : Vec F S1x1024 .f32) (x6 : Vec F S1x1024 .f32) (x7 : Vec F S1x1024 .f32) (x8 : Vec F S1x1024 .f32) (x9 : Vec F S512x6144 .i32) (x10 : Vec F S512x1024 .i32) (x11 : Vec F S1024x1024 .i32) (x12 : Vec F S1x8x3072 .f32) (x13 : Vec F S4x8x128x128 .f32)

set_option maxHeartbeats 0 in
/-- A state loaded is read from the stores made until then. -/
theorem stA_run (b : Fin 4) (h : Fin 8) : stA c arg2 harg2 arg3 harg3 arg4 harg4 arg5 harg5 arg7 harg7 arg11 harg11 arg17 x0 x1 x2 x3 x5 x9 b h
    = View.readCov arg17.view (((Gen.kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 ).2.1).drop (32 - (4 * (h : ℕ) + (b : ℕ)))) (rS b h).toLoadRect := by
  unfold Gen.kernelRun0_A
  fin_cases b <;> fin_cases h <;> exact Eq.refl _

set_option maxHeartbeats 0 in
/-- Pool rows loaded are read from the stores made until then. -/
theorem hsA_run (b g : Fin 4) : hsA c arg2 harg2 arg6 harg6 arg7 harg7 arg11 harg11 arg21 x0 x4 x5 x9 b g
    = View.readCov arg21.view (((Gen.kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 ).2.2.2.2.2.1).drop (16 - (4 * (g : ℕ) + (b : ℕ)))) (rH b g).toLoadRect := by
  unfold Gen.kernelRun0_A
  fin_cases b <;> fin_cases g <;> exact Eq.refl _

include i arg6 harg6 arg16 harg16 arg17 harg17 arg18 harg18 arg19 harg19 arg20 harg20 arg21 harg21 hc0 hc1 x3 x4 arg5 harg5

/-- A state loaded is what was stored before it. -/
theorem stA_at (b : Fin 4) (h : Fin 8) : stA c arg2 harg2 arg3 harg3 arg4 harg4 arg5 harg5 arg7 harg7 arg11 harg11 arg17 x0 x1 x2 x3 x5 x9 b h
    = View.readCov arg17.view (((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).sL (stA c arg2 harg2 arg3 harg3 arg4 harg4 arg5 harg5 arg7 harg7 arg11 harg11 arg17 x0 x1 x2 x3 x5 x9) ++ sI arg5 harg5 x3).drop (32 - (4 * (h : ℕ) + (b : ℕ)))) (rS b h).toLoadRect := by
  rw [← s_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13]
  exact stA_run ..

/-- The recent pool rows loaded are what was stored before them. -/
theorem hsA_at (b g : Fin 4) : hsA c arg2 harg2 arg6 harg6 arg7 harg7 arg11 harg11 arg21 x0 x4 x5 x9 b g
    = View.readCov arg21.view (((ofWindows arg2 harg2 arg3 harg3 arg4 harg4 arg7 harg7 arg8 harg8 arg9 harg9 arg10 harg10 arg11 harg11 arg12 harg12 arg13 harg13 arg14 harg14 arg15 harg15 x0 x1 x2 x5 x6 x7 x8 x9 x10 x11 x12 x13).hL ++ hI arg6 harg6 x4).drop (16 - (4 * (g : ℕ) + (b : ℕ)))) (rH b g).toLoadRect := by
  rw [← h_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13]
  exact hsA_run ..

end Cert.KernelIdeal
-- ==== Proof.Sweep.lean ====
module

public import proofs.«01_k».proof.Proof.Blocks
public import proofs.«01_k».proof.Proof.CaseAst

/-! What every grid point leaves, by induction along the grid: the states and kept pool rows after its chunk, its
chunk's output. -/

@[expose] public section

set_option maxRecDepth 16384

noncomputable section

namespace Cert.KernelIdeal

open Idealize.ShloMosaic Idealize.ShloMosaic.TcCoe Idealize.SL Idealize.SL.Sem

variable (m : (ℓ : Loc nD τ sig) → Buf (Elt Ideal) ℓ) (c : Dev nD) (t : Fin cfg0.N)

/-- The grid's first point. -/
def start : Fin cfg0.N := ⟨0, lt_of_lt_of_eq (by decide) Gen.N_0.symm⟩

/-- It starts a sequence. -/
theorem start_first : Gen.cond0_0 (grid0.coords start) := (Gen.hcond0_0 start).mpr rfl

/-- It does not end one. -/
theorem start_not_last : ¬Gen.cond0_1 (grid0.coords start) := fun h => absurd ((Gen.hcond0_1 start).mp h) (by decide)

/-- A first point loads the first states. -/
theorem st0_at (b : Fin 4) (h : Fin 8) (d e : Fin 128) : st0 m c t b h (ix4 0 0 d e) = (inputs m c).state (seq t b) 0 h d e := by
  have e1 : st0 m c t b h = View.readCov (Gen.ms0_15 t).view (((ld m c t).sL (st0 m c t)
      ++ sI (Gen.ms0_3 t) (Gen.hs0_3 t) (Gen.iblk m c 3 t)).drop (32 - (4 * (h : ℕ) + (b : ℕ)))) (rS b h).toLoadRect :=
    stA_at c (grid0.coords start) (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) (Gen.ms0_6 t) (Gen.hs0_6 t) (Gen.ms0_7 t) (Gen.hs0_7 t) (Gen.ms0_8 t) (Gen.hs0_8 t) (Gen.ms0_9 t) (Gen.hs0_9 t) (Gen.ms0_10 t) (Gen.hs0_10 t) (Gen.ms0_11 t) (Gen.hs0_11 t) (Gen.ms0_12 t) (Gen.hs0_12 t) (Gen.ms0_13 t) (Gen.hs0_13 t) (Gen.ms0_14 t) (Gen.hs0_14 t) (Gen.ms0_15 t) (Gen.hs0_15 t) (Gen.ms0_16 t) (Gen.hs0_16 t) (Gen.ms0_17 t) (Gen.hs0_17 t) (Gen.ms0_18 t) (Gen.hs0_18 t) Gen.scM0_0 (Memref.isWhole_whole _) start_first start_not_last (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.iblk m c 10 t) (Gen.iblk m c 11 t) (Gen.iblk m c 12 t) (Gen.iblk m c 13 t) b h
  rw [e1, View.readCov_eq_canon']
  refine (congrArg _ (rS_emb b h d e)).trans ?_
  refine (canon_heads_before (fun b h => (ld m c t).s1 b h (st0 m c t b h)) _ b h d e).trans ?_
  exact (canon_sI _ _ _ b h d e).trans (blk_smeta m c t h d e)

/-- A first point loads the first pool rows. -/
theorem hs0_at (b g : Fin 4) (i : Fin 16) (d : Fin 256) :
    hs0 m c t b g (ix3 0 i d) = (inputs m c).rows (seq t b) 0 i ⟨256 * g + d, by omega⟩ := by
  have e1 : hs0 m c t b g = View.readCov Gen.scM0_0.view (((ld m c t).hL
      ++ hI (Gen.ms0_4 t) (Gen.hs0_4 t) (Gen.iblk m c 4 t)).drop (16 - (4 * (g : ℕ) + (b : ℕ)))) (rH b g).toLoadRect :=
    hsA_at c (grid0.coords start) (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) (Gen.ms0_6 t) (Gen.hs0_6 t) (Gen.ms0_7 t) (Gen.hs0_7 t) (Gen.ms0_8 t) (Gen.hs0_8 t) (Gen.ms0_9 t) (Gen.hs0_9 t) (Gen.ms0_10 t) (Gen.hs0_10 t) (Gen.ms0_11 t) (Gen.hs0_11 t) (Gen.ms0_12 t) (Gen.hs0_12 t) (Gen.ms0_13 t) (Gen.hs0_13 t) (Gen.ms0_14 t) (Gen.hs0_14 t) (Gen.ms0_15 t) (Gen.hs0_15 t) (Gen.ms0_16 t) (Gen.hs0_16 t) (Gen.ms0_17 t) (Gen.hs0_17 t) (Gen.ms0_18 t) (Gen.hs0_18 t) Gen.scM0_0 (Memref.isWhole_whole _) start_first start_not_last (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.iblk m c 10 t) (Gen.iblk m c 11 t) (Gen.iblk m c 12 t) (Gen.iblk m c 13 t) b g
  rw [e1, View.readCov_eq_canon']
  refine (congrArg _ (rH_emb b g i d)).trans ?_
  refine (canon_groups_before (fun b g => (ld m c t).h1T b g) _ b g i d).trans ?_
  exact (canon_hI _ _ _ b i _).trans (blk_umeta m c t i _)

/-- What point `n` leaves in the state window and in the kept rows. -/
def Left (n : ℕ) (hn : n < cfg0.N) : Prop := ∀ b : Fin 4,
  (∀ (h : Fin 8) (d e : Fin 128), (Gen.outsAt0 m c n hn).2.1 (ix4 b h d e) = (inputs m c).state (seq ⟨n, hn⟩ b) (n % 16 + 1) h d e)
  ∧ ∀ (i : Fin 16) (k : Fin 1024), (Gen.outsAt0 m c n hn).2.2.2.2.2 (ix3 b i k) = (inputs m c).rows (seq ⟨n, hn⟩ b) (n % 16 + 1) i k

/-- The point before left what a later point starts from: the states. -/
theorem stP_at (h0 : ¬t.val % 16 = 0) (hp : Left m c (t.val - 1) (Nat.lt_of_le_of_lt (Nat.sub_le _ _) t.isLt)) (b : Fin 4)
    (h : Fin 8) (d e : Fin 128) : stP m c t b h (ix4 0 0 d e) = (inputs m c).state (seq t b) (t.val % 16) h d e := by
  have e1 : seq ⟨t.val - 1, Nat.lt_of_le_of_lt (Nat.sub_le _ _) t.isLt⟩ b = seq t b := Fin.ext (by dsimp only [seq]; omega)
  have e2 : (t.val - 1) % 16 + 1 = t.val % 16 := by omega
  have h1 := (hp b).1 h d e
  rw [e1, e2] at h1
  exact (stOf_at _ _ _ b h d e).trans h1

/-- The point before left what a later point starts from: the pool rows. -/
theorem hsP_at (h0 : ¬t.val % 16 = 0) (hp : Left m c (t.val - 1) (Nat.lt_of_le_of_lt (Nat.sub_le _ _) t.isLt)) (b g : Fin 4)
    (i : Fin 16) (d : Fin 256) : hsP m c t b g (ix3 0 i d) = (inputs m c).rows (seq t b) (t.val % 16) i ⟨256 * g + d, by omega⟩ := by
  have e1 : seq ⟨t.val - 1, Nat.lt_of_le_of_lt (Nat.sub_le _ _) t.isLt⟩ b = seq t b := Fin.ext (by dsimp only [seq]; omega)
  have e2 : (t.val - 1) % 16 + 1 = t.val % 16 := by omega
  have h1 := (hp b).2 i ⟨256 * g + d, by omega⟩
  rw [e1, e2] at h1
  exact (hsOf_at _ _ _ b g i d).trans h1

/-- A first point's leavings. -/
theorem left_first (h0 : t.val % 16 = 0) : Left m c t.val t.isLt := by
  intro b
  have A := agrees m c t b
  rw [h0] at A
  constructor
  · intro h d e
    rw [s_first m c t h0, h0]
    exact canon_sL A (st0 m c t) _ _ (st0_at m c t b) h d e
  · intro i k
    rw [h_first m c t h0, h0]
    exact canon_hL A _ i k

/-- A later point's leavings. -/
theorem left_next (h0 : ¬t.val % 16 = 0) (hp : Left m c (t.val - 1) (Nat.lt_of_le_of_lt (Nat.sub_le _ _) t.isLt)) :
    Left m c t.val t.isLt := by
  intro b
  have A := agrees m c t b
  constructor
  · intro h d e
    have h1 := canon_sL A (stP m c t) [] _ (stP_at m c t h0 hp b) h d e
    rw [List.append_nil] at h1
    rw [s_next m c t h0]
    exact h1
  · intro i k
    have h1 := canon_hL A [] i k
    rw [List.append_nil] at h1
    rw [h_next m c t h0]
    exact h1

/-- Every point's leavings. -/
theorem left (n : ℕ) : ∀ hn : n < cfg0.N, Left m c n hn := by
  induction n with
  | zero => exact fun hn => left_first m c ⟨0, hn⟩ rfl
  | succ n ih =>
    intro hn
    by_cases h0 : (n + 1) % 16 = 0
    · exact left_first m c ⟨n + 1, hn⟩ h0
    · exact left_next m c ⟨n + 1, hn⟩ h0 (ih _)

/-- The output rows a point leaves are its chunk's. -/
theorem y_left (b : Fin 4) (r : Fin 128) (k : Fin 1024) :
    (Gen.outsAt0 m c t.val t.isLt).1 (ix3 b r k) = (inputs m c).out (seq t b) (t.val % 16) r k := by
  have A := agrees m c t b
  by_cases h0 : t.val % 16 = 0
  · rw [y_first m c t h0]
    rw [h0] at A ⊢
    exact canon_yL A (st0 m c t) (hs0 m c t) _ _ (st0_at m c t b) (hs0_at m c t b) r k
  · rw [y_next m c t h0]
    exact canon_yL A (stP m c t) (hsP m c t) _ _ (stP_at m c t h0 (left m c _ _) b) (hsP_at m c t h0 (left m c _ _) b) r k

/-- The last pool rows a sequence's last point leaves. -/
theorem pb_left (h1 : t.val % 16 = 15) (b : Fin 4) (i : Fin 15) (k : Fin 1024) :
    (Gen.outsAt0 m c t.val t.isLt).2.2.1 (ix3 b i k) = (inputs m c).tail (seq t b) i k := by
  have A := agrees m c t b
  rw [h1] at A
  rw [pb_pt m c t h1]
  exact canon_pbL A _ (wu_at m c t) i k

/-- The sample states a point leaves. -/
theorem so_left (j : Fin 4) (h : Fin 8) (d e : Fin 128) :
    (Gen.outsAt0 m c t.val t.isLt).2.2.2.1 (ix4 j h d e) = (inputs m c).sample ⟨4 * t.val + j, by have := lt_points t; omega⟩ h d e := by
  have e1 : (⟨(4 * t.val + j) / 4, by have := lt_points t; omega⟩ : Fin 32) = ⟨t.val, lt_points t⟩ := Fin.ext (by dsimp only; omega)
  have e2 : (⟨(4 * t.val + j) % 4, by omega⟩ : Fin 8) = ⟨j, by omega⟩ := Fin.ext (by dsimp only; omega)
  rw [so_pt m c t]
  refine (canon_soL j h d e).trans ?_
  rw [gam_at, ss_at, kq_at, vq_at, Inputs.sample, e1, e2]

end Cert.KernelIdeal
-- ==== Proof.Final.lean ====
module

public import proofs.«01_k».proof.Proof.Sweep

/-! The kernel's results, element by element: the output rows, the prompt states, the last pool rows, the sample states. -/

@[expose] public section

set_option maxRecDepth 16384

noncomputable section

namespace Cert.KernelIdeal

open Idealize.ShloMosaic Idealize.ShloMosaic.TcCoe Idealize.SL Idealize.SL.Sem

variable (m : (ℓ : Loc nD τ sig) → Buf (Elt Ideal) ℓ) (c : Dev nD)

/-- The output rows. -/
theorem G14_at (B : Fin 8) (n : Fin 2048) (k : Fin 1024) :
    Value.G14 m c (ix3 B n k) = (inputs m c).out B (n / 128) ⟨n % 128, by omega⟩ k := by
  have hp : Value.pt14Of (ix3 B n k) = 16 * (B / 4) + n / 128 := by
    dsimp only [Value.pt14Of, Value.run14Of, Value.pt15Of, Value.run15Of, Value.pt16Of, Value.run16Of, Value.pt17Of, Value.run17Of, ix3, ix4]
    have h0 : (k : ℕ) < 1024 := k.isLt
    omega
  have hlt : Value.pt14Of (ix3 B n k) < cfg0.N := by
    exact lt_of_lt_of_eq (by omega) Gen.N_0.symm
  have key : ∀ (p : ℕ) (h : p < cfg0.N), p = 16 * (B / 4) + n / 128 →
      (Gen.outsAt0 m c p h).1 (Value.loc14Of (ix3 B n k)) = (inputs m c).out B (n / 128) ⟨n % 128, by omega⟩ k := by
    intro p h e
    have h1 := y_left m c ⟨p, h⟩ ⟨B % 4, by omega⟩ ⟨n % 128, by omega⟩ k
    have e1 : seq ⟨p, h⟩ (⟨B % 4, by omega⟩ : Fin 4) = B := Fin.ext (by dsimp only [seq]; omega)
    have e2 : p % 16 = n / 128 := by omega
    dsimp only at h1
    rw [e1, e2] at h1
    refine (congrArg _ ?_).trans h1
    funext a
    fin_cases a
    · rfl
    · rfl
    · exact Fin.ext (Nat.mod_eq_of_lt k.isLt)
  rw [Value.G14, dif_pos hlt, ← Value.outsAt0_sweep]
  exact key _ hlt hp

/-- The prompt states. -/
theorem G15_at (B : Fin 8) (h : Fin 8) (d e : Fin 128) : Value.G15 m c (ix4 B h d e) = (inputs m c).state B 16 h d e := by
  have hp : Value.pt15Of (ix4 B h d e) = 16 * (B / 4) + 15 := by
    dsimp only [Value.pt14Of, Value.run14Of, Value.pt15Of, Value.run15Of, Value.pt16Of, Value.run16Of, Value.pt17Of, Value.run17Of, ix3, ix4]
    have h0 : (h : ℕ) < 8 := h.isLt
    have h1 : (d : ℕ) < 128 := d.isLt
    have h2 : (e : ℕ) < 128 := e.isLt
    omega
  have hlt : Value.pt15Of (ix4 B h d e) < cfg0.N := by
    exact lt_of_lt_of_eq (by omega) Gen.N_0.symm
  have key : ∀ (p : ℕ) (hN : p < cfg0.N), p = 16 * (B / 4) + 15 →
      (Gen.outsAt0 m c p hN).2.1 (Value.loc15Of (ix4 B h d e)) = (inputs m c).state B 16 h d e := by
    intro p hN ep
    have h1 := (left m c p hN ⟨B % 4, by omega⟩).1 h d e
    have e1 : seq ⟨p, hN⟩ (⟨B % 4, by omega⟩ : Fin 4) = B := Fin.ext (by dsimp only [seq]; omega)
    have e2 : p % 16 + 1 = 16 := by omega
    rw [e1, e2] at h1
    refine (congrArg _ ?_).trans h1
    funext a
    fin_cases a
    · rfl
    · exact Fin.ext (Nat.mod_eq_of_lt h.isLt)
    · exact Fin.ext (Nat.mod_eq_of_lt d.isLt)
    · exact Fin.ext (Nat.mod_eq_of_lt e.isLt)
  rw [Value.G15, dif_pos hlt, ← Value.outsAt0_sweep]
  exact key _ hlt hp

/-- The last pool rows. -/
theorem G16_at (B : Fin 8) (i : Fin 15) (k : Fin 1024) : Value.G16 m c (ix3 B i k) = (inputs m c).tail B i k := by
  have hp : Value.pt16Of (ix3 B i k) = 16 * (B / 4) + 15 := by
    dsimp only [Value.pt14Of, Value.run14Of, Value.pt15Of, Value.run15Of, Value.pt16Of, Value.run16Of, Value.pt17Of, Value.run17Of, ix3, ix4]
    have h0 : (i : ℕ) < 15 := i.isLt
    have h1 : (k : ℕ) < 1024 := k.isLt
    omega
  have hlt : Value.pt16Of (ix3 B i k) < cfg0.N := by
    exact lt_of_lt_of_eq (by omega) Gen.N_0.symm
  have key : ∀ (p : ℕ) (hN : p < cfg0.N), p = 16 * (B / 4) + 15 →
      (Gen.outsAt0 m c p hN).2.2.1 (Value.loc16Of (ix3 B i k)) = (inputs m c).tail B i k := by
    intro p hN ep
    have h1 := pb_left m c ⟨p, hN⟩ (by dsimp only; omega) ⟨B % 4, by omega⟩ i k
    have e1 : seq ⟨p, hN⟩ (⟨B % 4, by omega⟩ : Fin 4) = B := Fin.ext (by dsimp only [seq]; omega)
    rw [e1] at h1
    refine (congrArg _ ?_).trans h1
    funext a
    fin_cases a
    · rfl
    · exact Fin.ext (Nat.mod_eq_of_lt i.isLt)
    · exact Fin.ext (Nat.mod_eq_of_lt k.isLt)
  rw [Value.G16, dif_pos hlt, ← Value.outsAt0_sweep]
  exact key _ hlt hp

/-- The sample states. -/
theorem G17_at (n : Fin 128) (h : Fin 8) (d e : Fin 128) : Value.G17 m c (ix4 n h d e) = (inputs m c).sample n h d e := by
  have hp : Value.pt17Of (ix4 n h d e) = n / 4 := by
    dsimp only [Value.pt14Of, Value.run14Of, Value.pt15Of, Value.run15Of, Value.pt16Of, Value.run16Of, Value.pt17Of, Value.run17Of, ix3, ix4]
    have h0 : (h : ℕ) < 8 := h.isLt
    have h1 : (d : ℕ) < 128 := d.isLt
    have h2 : (e : ℕ) < 128 := e.isLt
    omega
  have hlt : Value.pt17Of (ix4 n h d e) < cfg0.N := by
    exact lt_of_lt_of_eq (by omega) Gen.N_0.symm
  have key : ∀ (p : ℕ) (hN : p < cfg0.N), p = n / 4 →
      (Gen.outsAt0 m c p hN).2.2.2.1 (Value.loc17Of (ix4 n h d e)) = (inputs m c).sample n h d e := by
    intro p hN ep
    have h1 := so_left m c ⟨p, hN⟩ ⟨n % 4, by omega⟩ h d e
    have e1 : (⟨4 * p + n % 4, by omega⟩ : Fin 128) = n := Fin.ext (by dsimp only; omega)
    dsimp only at h1
    rw [e1] at h1
    refine (congrArg _ ?_).trans h1
    funext a
    fin_cases a
    · rfl
    · exact Fin.ext (Nat.mod_eq_of_lt h.isLt)
    · exact Fin.ext (Nat.mod_eq_of_lt d.isLt)
    · exact Fin.ext (Nat.mod_eq_of_lt e.isLt)
  rw [Value.G17, dif_pos hlt, ← Value.outsAt0_sweep]
  exact key _ hlt hp

end Cert.KernelIdeal
-- ==== Proof.RefSlice.lean ====
module

public import proofs.«01_k».proof.Proof.Gen.ReferenceIdeal.Run
public import proofs.«01_k».proof.Proof.Seq
public import Idealize.ShloMosaic.Lib.WordCmp
public import Idealize.ShloMosaic.Lib.DynamicIndex

/-! The reference's reads and writes of one chunk among sixteen, at a number the loop counts. -/

@[expose] public section

set_option maxRecDepth 16384

noncomputable section

namespace Cert.ReferenceIdeal

open Idealize.ShloMosaic Idealize.ShloMosaic.TcCoe Idealize.SL Idealize.SL.Sem

/-- One chunk of the rows. -/
theorem slice_rows (T : ℕ) (hT : T < 16) (x : FVec Ideal S16x8x128x1024 .f32) (n : IVec S_ 32) (hn : ∀ i, (n i).toInt = T)
    (h : S16x8x128x1024.Slices (fun _ => 0) S1x8x128x1024) (hc : S1x8x128x1024.ShapeCasts S8x128x1024) (B : Fin 8) (r : Fin 128) (c : Fin 1024) :
    shapeCast S8x128x1024 (Host.dynamicSlice S1x8x128x1024 x (fun k => ((![n, constantI S_ 32 0#32, constantI S_ 32 0#32,
      constantI S_ 32 0#32] : Fin 4 → IVec S_ 32) k (Shape.Idx.first Gen.h_S_)).toInt) h) hc (ix3 B r c) = x (ix4 ⟨T, hT⟩ B r c) := by
  have hs : S16x8x128x1024.Slices ![T, 0, 0, 0] S1x8x128x1024 := ⟨rfl, fun a => by
    fin_cases a
    · show T + 1 ≤ 16; omega
    · exact Nat.le_refl 8
    · exact Nat.le_refl 128
    · exact Nat.le_refl 1024⟩
  rw [Host.dynamicSlice_eq_extractStridedSlice S1x8x128x1024 x _ ![T, 0, 0, 0] h hs (fun a => by
    fin_cases a
    · exact hn _
    · rfl
    · rfl
    · rfl)]
  pointwise

/-- One chunk of the angles. -/
theorem slice_angles (T : ℕ) (hT : T < 16) (x : FVec Ideal S16x128x64 .f32) (n : IVec S_ 32) (hn : ∀ i, (n i).toInt = T)
    (h : S16x128x64.Slices (fun _ => 0) S1x128x64) (hc : S1x128x64.ShapeCasts S128x64) (r : Fin 128) (d : Fin 64) :
    shapeCast S128x64 (Host.dynamicSlice S1x128x64 x (fun k => ((![n, constantI S_ 32 0#32, constantI S_ 32 0#32] :
      Fin 3 → IVec S_ 32) k (Shape.Idx.first Gen.h_S_)).toInt) h) hc (ix2 r d) = x (ix3 ⟨T, hT⟩ r d) := by
  have hs : S16x128x64.Slices ![T, 0, 0] S1x128x64 := ⟨rfl, fun a => by
    fin_cases a
    · show T + 1 ≤ 16; omega
    · exact Nat.le_refl 128
    · exact Nat.le_refl 64⟩
  rw [Host.dynamicSlice_eq_extractStridedSlice S1x128x64 x _ ![T, 0, 0] h hs (fun a => by
    fin_cases a
    · exact hn _
    · rfl
    · rfl)]
  pointwise

/-- One chunk of the outputs written. -/
theorem update_rows (T : ℕ) (hT : T < 16) (x : FVec Ideal S16x8x128x1024 .f32) (u : FVec Ideal S1x8x128x1024 .f32) (n : IVec S_ 32)
    (hn : ∀ i, (n i).toInt = T) (h : S16x8x128x1024.Slices (fun _ => 0) S1x8x128x1024) (i : Fin 16) (B : Fin 8) (r : Fin 128) (c : Fin 1024) :
    Host.dynamicUpdateSlice x u (fun k => ((![n, constantI S_ 32 0#32, constantI S_ 32 0#32, constantI S_ 32 0#32] :
      Fin 4 → IVec S_ 32) k (Shape.Idx.first Gen.h_S_)).toInt) h (ix4 i B r c)
      = if (i : ℕ) = T then u (ix4 0 B r c) else x (ix4 i B r c) := by
  have hs : S16x8x128x1024.Slices ![T, 0, 0, 0] S1x8x128x1024 := ⟨rfl, fun a => by
    fin_cases a
    · show T + 1 ≤ 16; omega
    · exact Nat.le_refl 8
    · exact Nat.le_refl 128
    · exact Nat.le_refl 1024⟩
  rw [WordCmp.dynamicUpdateSlice_eq_update x u _ h ![T, 0, 0, 0] hs (fun a => by
    fin_cases a
    · exact hn _
    · rfl
    · rfl
    · rfl)]
  by_cases hi : (i : ℕ) = T
  · rw [if_pos hi]
    refine (dif_pos (fun a => ?_)).trans (congrArg u ?_)
    · fin_cases a
      · show T ≤ (i : ℕ) ∧ (i : ℕ) < T + 1; omega
      · show 0 ≤ (B : ℕ) ∧ (B : ℕ) < 0 + 8; omega
      · show 0 ≤ (r : ℕ) ∧ (r : ℕ) < 0 + 128; omega
      · show 0 ≤ (c : ℕ) ∧ (c : ℕ) < 0 + 1024; omega
    · funext b
      apply Fin.ext
      fin_cases b
      · show (i : ℕ) - T = 0; omega
      · rfl
      · rfl
      · rfl
  · rw [if_neg hi]
    refine dif_neg fun hall => hi ?_
    have := hall 0
    change T ≤ (i : ℕ) ∧ (i : ℕ) < T + 1 at this
    omega

end Cert.ReferenceIdeal
-- ==== Proof.RefStep.lean ====
module

public import proofs.«01_k».proof.Proof.Gen.ReferenceIdeal.Run
public import proofs.«01_k».proof.Proof.RefSlice
public import proofs.«01_k».proof.Proof.Consts

/-! One trip of the reference's loop, element by element: the chunk's formulas. -/

@[expose] public section

set_option maxRecDepth 16384

noncomputable section

namespace Cert.ReferenceIdeal

open Idealize.ShloMosaic Idealize.ShloMosaic.TcCoe Idealize.SL Idealize.SL.Sem

/-- 2 terms in a row, as a sum. -/
theorem sum2 (f : ℕ → EReal) : f 0 + f 1 = ∑ j ∈ Finset.range 2, f j := by
  simp only [Finset.sum_range_succ, Finset.sum_range_zero, zero_add]

/-- 4 terms in a row, as a sum. -/
theorem sum4 (f : ℕ → EReal) : f 0 + f 1 + f 2 + f 3 = ∑ j ∈ Finset.range 4, f j := by
  simp only [Finset.sum_range_succ, Finset.sum_range_zero, zero_add]

/-- 8 terms in a row, as a sum. -/
theorem sum8 (f : ℕ → EReal) : f 0 + f 1 + f 2 + f 3 + f 4 + f 5 + f 6 + f 7 = ∑ j ∈ Finset.range 8, f j := by
  simp only [Finset.sum_range_succ, Finset.sum_range_zero, zero_add]

/-- 16 terms in a row, as a sum. -/
theorem sum16 (f : ℕ → EReal) : f 0 + f 1 + f 2 + f 3 + f 4 + f 5 + f 6 + f 7 +
      f 8 + f 9 + f 10 + f 11 + f 12 + f 13 + f 14 + f 15 = ∑ j ∈ Finset.range 16, f j := by
  simp only [Finset.sum_range_succ, Finset.sum_range_zero, zero_add]

/-- What the loop carries unchanged, and the trips made. -/
structure Fixed (a : Inputs) (T : ℕ) (V : Valuation τ sig (Elt Ideal)) : Prop where
  x : ∀ (i : Fin 16) (B : Fin 8) (r : Fin 128) (c : Fin 1024),
    (V (Proc.devRef .tc main_v18_0) : FVec Ideal S16x8x128x1024 .f32) (ix4 i B r c) = a.x (ix3 B ⟨128 * i + r, by omega⟩ c)
  cos : ∀ (i : Fin 16) (r : Fin 128) (d : Fin 64),
    (V (Proc.devRef .tc main_v18_1) : FVec Ideal S16x128x64 .f32) (ix3 i r d) = a.cos (ix2 ⟨128 * i + r, by omega⟩ d)
  sin : ∀ (i : Fin 16) (r : Fin 128) (d : Fin 64),
    (V (Proc.devRef .tc main_v18_2) : FVec Ideal S16x128x64 .f32) (ix3 i r d) = a.sin (ix2 ⟨128 * i + r, by omega⟩ d)
  nw : ∀ c : Fin 1024, (V (Proc.devRef .tc main_v18_3) : FVec Ideal S1x1024 .f32) (ix2 0 c) = a.nw (ix2 0 c)
  w : ∀ (k : Fin 1024) (j : Fin 6144),
    (V (Proc.devRef .tc main_v18_4) : FVec Ideal S1024x6144 .f32) (ix2 k j) = half (a.win (ix2 ⟨k / 2, by omega⟩ j)) k
  ps : ∀ c : Fin 1024, (V (Proc.devRef .tc main_v18_5) : FVec Ideal S1x1024 .f32) (ix2 0 c) = a.ps (ix2 0 c)
  lg : ∀ h : Fin 8, (V (Proc.devRef .tc main_v18_6) : FVec Ideal S8 .f32) (ix1 h) = lgE h
  rn : ∀ c : Fin 1024, (V (Proc.devRef .tc main_v18_7) : FVec Ideal S1x1024 .f32) (ix2 0 c) = a.rn (ix2 0 c)
  wo : ∀ (k : Fin 2048) (j : Fin 1024),
    (V (Proc.devRef .tc main_v18_8) : FVec Ideal S2048x1024 .f32) (ix2 k j) = half (a.wout (ix2 ⟨k / 2, by omega⟩ j)) k
  fn : ∀ c : Fin 1024, (V (Proc.devRef .tc main_v18_9) : FVec Ideal S1x1024 .f32) (ix2 0 c) = a.fn (ix2 0 c)
  ctr : (V (Proc.devRef .tc main_v18_10) : IVec S_ 32) = fun _ => BitVec.ofNat 32 T

variable {a : Inputs} {T : ℕ} {V : Valuation τ sig (Elt Ideal)} (A : Fixed a T V) (hT : T < 16) (B : Fin 8)

include A hT

/-- A slice's start is the trip's number. -/
theorem ctr_at (i : S_.Idx) : ((V (Proc.devRef .tc main_v18_10) : IVec S_ 32) i).toInt = T := by
  rw [A.ctr]
  have h : (BitVec.ofNat 32 T).toNat = T := by rw [BitVec.toNat_ofNat]; omega
  rw [BitVec.toInt_eq_toNat_of_lt (by rw [h]; omega), h]

/-- The chunk's rows. -/
theorem x_at (r : Fin 128) (c : Fin 1024) :
    (Value.res_main_while0b_v62 V : FVec Ideal S8x128x1024 .f32) (ix3 B r c) = (a.chunk B T).x r c := by
  refine (slice_rows T hT _ _ (ctr_at A hT) _ _ B r c).trans ((A.x ⟨T, hT⟩ B r c).trans ?_)
  exact congrArg (fun i => a.x (ix3 B i c)) (Fin.ext (by dsimp only; omega))

/-- The cosines. -/
theorem cos_at (r : Fin 128) (d : Fin 64) :
    (Value.res_main_while0b_v63 V : FVec Ideal S128x64 .f32) (ix2 r d) = (a.chunk B T).cos r d := by
  refine (slice_angles T hT _ _ (ctr_at A hT) _ _ r d).trans ((A.cos ⟨T, hT⟩ r d).trans ?_)
  exact congrArg (fun i => a.cos (ix2 i d)) (Fin.ext (by dsimp only; omega))

/-- The sines. -/
theorem sin_at (r : Fin 128) (d : Fin 64) :
    (Value.res_main_while0b_v64 V : FVec Ideal S128x64 .f32) (ix2 r d) = (a.chunk B T).sin r d := by
  refine (slice_angles T hT _ _ (ctr_at A hT) _ _ r d).trans ((A.sin ⟨T, hT⟩ r d).trans ?_)
  exact congrArg (fun i => a.sin (ix2 i d)) (Fin.ext (by dsimp only; omega))

/-- The projections. -/
theorem p_at (r : Fin 128) (j : Fin 6144) :
    (Value.res_main_while0b_v78 V : FVec Ideal S8x128x6144 .f32) (ix3 B r j) = (a.chunk B T).p r j := by
  pointwise [Value.res_main_while0b_v78]
  refine Finset.sum_congr (M := EReal) rfl fun k _ => ?_
  rw [A.nw, A.w]
  simp only [x_at A hT]
  rfl

/-- The rows the pool sums over. -/
theorem ext_at (H : PoolRows) (hH : ∀ (i : Fin 16) (c : Fin 1024),
    (V (Proc.devRef .tc main_v18_12) : FVec Ideal S8x16x1024 .f32) (ix3 B i c) = H i c) (n : Fin 144) (c : Fin 1024) :
    (Value.res_main_while0b_v85 V : FVec Ideal S8x144x1024 .f32) (ix3 B n c) = (a.chunk B T).ext H n c := by
  pointwise [Value.res_main_while0b_v85, Value.res_main_while0b_v79, Chunk.ext]
  by_cases hn : (n : ℕ) < 16
  · rw [dif_pos hn, dif_pos hn, hH]
  · rw [dif_neg hn, dif_neg hn, p_at A hT]

/-- The pool. -/
theorem pool_at (H : PoolRows) (hH : ∀ (i : Fin 16) (c : Fin 1024),
    (V (Proc.devRef .tc main_v18_12) : FVec Ideal S8x16x1024 .f32) (ix3 B i c) = H i c) (r : Fin 128) (g : Fin 4) (d : Fin 256) :
    (Value.res_main_while0b_v158 V : FVec Ideal S8x128x1024 .f32) (ix3 B r ⟨256 * g + d, by omega⟩)
      = Ideal.div ((a.chunk B T).win H g ⟨256 * g + d, by omega⟩ r) (wlenE g) - (a.chunk B T).p r ⟨256 * g + d, by omega⟩ := by
  have hr := r.isLt
  have hb : ∀ (c : Fin 1024) (n : ℕ) (hn : n ≤ 16),
      (Value.res_main_while0b_v85 V : FVec Ideal S8x144x1024 .f32) (ix3 B ⟨n + r, by omega⟩ c) = (a.chunk B T).back H c r (16 - n) := by
    intro c n hn
    rw [ext_at A hT B H hH]
    exact congrArg (fun i => (a.chunk B T).ext H i c) (Fin.ext (by dsimp only; omega))
  have hd := d.isLt
  have e2 : 512 + (d : ℕ) - 256 - 256 = d := by omega
  have e3 : 768 + (d : ℕ) - 256 - 256 - 256 = d := by omega
  fin_cases g
  · pointwise [Value.res_main_while0b_v158, Value.res_main_while0b_v79]
    refine congrArg₂ (· - ·) (congrArg (Ideal.div · _) ?_) (p_at A hT B r _)
    simp only [hb, Nat.reduceLeDiff, Nat.reduceSub, Chunk.win]
    exact sum2 (fun j => (a.chunk B T).back H _ r j)
  · pointwise [Value.res_main_while0b_v158, Value.res_main_while0b_v79]
    refine congrArg₂ (· - ·) (congrArg (Ideal.div · _) ?_) (p_at A hT B r _)
    simp only [hb, Nat.reduceLeDiff, Nat.reduceSub, Chunk.win]
    exact sum4 (fun j => (a.chunk B T).back H _ r j)
  · pointwise [Value.res_main_while0b_v158, Value.res_main_while0b_v79]
    refine (dif_neg (by omega)).trans ((dif_neg (by omega)).trans ((dif_pos (by omega)).trans ?_))
    simp only [e2]
    refine congrArg₂ (· - ·) (congrArg (Ideal.div · _) ?_) (p_at A hT B r _)
    simp only [hb, Nat.reduceLeDiff, Nat.reduceSub, Chunk.win]
    exact sum8 (fun j => (a.chunk B T).back H _ r j)
  · pointwise [Value.res_main_while0b_v158, Value.res_main_while0b_v79]
    refine (dif_neg (by omega)).trans ((dif_neg (by omega)).trans ((dif_neg (by omega)).trans ?_))
    simp only [e3]
    refine congrArg₂ (· - ·) (congrArg (Ideal.div · _) ?_) (p_at A hT B r _)
    simp only [hb, Nat.reduceLeDiff, Nat.reduceSub, Chunk.win]
    exact sum16 (fun j => (a.chunk B T).back H _ r j)

/-- A head's columns of a projection. -/
theorem tile_at (s : Fin 6) (h : Fin 8) (r d : Fin 128) (j : Fin 6144) (hj : (j : ℕ) = 1024 * s + 128 * h + d) :
    (Value.res_main_while0b_v78 V : FVec Ideal S8x128x6144 .f32) (ix3 B r j) = (a.chunk B T).tile s h r d := by
  rw [p_at A hT]
  exact congrArg _ (Fin.ext hj)

/-- The queries. -/
theorem q_at (h : Fin 8) (r d : Fin 128) :
    (Value.res_main_while0b_v181 V : FVec Ideal S8x8x128x128 .f32) (ix4 B h r d) = (a.chunk B T).q h r d := by
  pointwise [Value.res_main_while0b_v181, Value.res_main_while0b_v165, Value.res_main_while0b_v166, Value.res_main_while0b_v164, Chunk.q, Chunk.rot]
  simp only [cos_at A hT B, sin_at A hT B]
  by_cases hd : (d : ℕ) < 64
  · rw [dif_pos hd, dif_pos hd]
    exact congrArg₂ (· - ·) (congrArg (· * _) (tile_at A hT B 2 h r d _ (by dsimp only; omega)))
      (congrArg (· * _) (tile_at A hT B 2 h r ⟨d + 64, by omega⟩ _ (by dsimp only; omega)))
  · rw [dif_neg hd, dif_neg hd]
    exact congrArg₂ (· + ·) (congrArg (· * _) (tile_at A hT B 2 h r ⟨d - 64, by omega⟩ _ (by dsimp only; omega)))
      (congrArg (· * _) (tile_at A hT B 2 h r d _ (by dsimp only; omega)))

/-- The keys. -/
theorem k_at (h : Fin 8) (r d : Fin 128) :
    (Value.res_main_while0b_v203 V : FVec Ideal S8x8x128x128 .f32) (ix4 B h r d) = (a.chunk B T).k h r d := by
  pointwise [Value.res_main_while0b_v203, Value.res_main_while0b_v184, Value.res_main_while0b_v185, Value.res_main_while0b_v183, Chunk.k, Chunk.rot]
  refine congrArg₂ (· * ·) ?_ Consts.rsqrt_128
  simp only [cos_at A hT B, sin_at A hT B]
  by_cases hd : (d : ℕ) < 64
  · rw [dif_pos hd, dif_pos hd]
    exact congrArg₂ (· - ·) (congrArg (· * _) (tile_at A hT B 3 h r d _ (by dsimp only; omega)))
      (congrArg (· * _) (tile_at A hT B 3 h r ⟨d + 64, by omega⟩ _ (by dsimp only; omega)))
  · rw [dif_neg hd, dif_neg hd]
    exact congrArg₂ (· + ·) (congrArg (· * _) (tile_at A hT B 3 h r ⟨d - 64, by omega⟩ _ (by dsimp only; omega)))
      (congrArg (· * _) (tile_at A hT B 3 h r d _ (by dsimp only; omega)))

/-- The values. -/
theorem v_at (h : Fin 8) (r d : Fin 128) :
    (Value.res_main_while0b_v205 V : FVec Ideal S8x8x128x128 .f32) (ix4 B h r d) = (a.chunk B T).v h r d := by
  pointwise [Value.res_main_while0b_v205]
  exact tile_at A hT B 4 h r d _ (by dsimp only; omega)

/-- The retention's output. -/
theorem o_at (h : Fin 8) (S : HeadState) (hS : ∀ d e : Fin 128,
    (V (Proc.devRef .tc main_v18_11) : FVec Ideal S8x8x128x128 .f32) (ix4 B h d e) = S d e) (r e : Fin 128) :
    (Value.res_main_while0b_v260 V : FVec Ideal S8x8x128x128 .f32) (ix4 B h r e) = (a.chunk B T).o h S r e := by
  pointwise [Value.res_main_while0b_v260, Value.res_main_while0b_v212, Value.res_main_while0b_v207, Chunk.o, mask, qdecE, pos]
  simp only [q_at A hT, k_at A hT, v_at A hT, A.lg, hS]
  rw [id_eq]
  pointwise

/-- The state after the chunk. -/
theorem s1_at (h : Fin 8) (S : HeadState) (hS : ∀ d e : Fin 128,
    (V (Proc.devRef .tc main_v18_11) : FVec Ideal S8x8x128x128 .f32) (ix4 B h d e) = S d e) (d e : Fin 128) :
    (Value.step_main_v18_11 V : FVec Ideal S8x8x128x128 .f32) (ix4 B h d e) = (a.chunk B T).s1 h S d e := by
  unfold Value.step_main_v18_11
  rw [id_eq]
  pointwise [Value.res_main_while0b_v207, Chunk.s1, cdE, kdecE, pos]
  simp only [k_at A hT, v_at A hT, A.lg, hS]

/-- The rows kept. -/
theorem keep_at (H : PoolRows) (hH : ∀ (i : Fin 16) (c : Fin 1024),
    (V (Proc.devRef .tc main_v18_12) : FVec Ideal S8x16x1024 .f32) (ix3 B i c) = H i c) (i : Fin 16) (c : Fin 1024) :
    (Value.step_main_v18_12 V : FVec Ideal S8x16x1024 .f32) (ix3 B i c) = (a.chunk B T).keep i c := by
  unfold Value.step_main_v18_12
  rw [id_eq]
  pointwise
  rw [ext_at A hT B H hH, Chunk.ext, dif_neg (by dsimp only; omega)]
  exact congrArg (fun i => (a.chunk B T).p i ⟨c, by omega⟩) (Fin.ext (by dsimp only; omega))

/-- The output row before its norm. -/
theorem pre_at (S : Fin 8 → HeadState) (H : PoolRows) (hS : ∀ (h : Fin 8) (d e : Fin 128),
    (V (Proc.devRef .tc main_v18_11) : FVec Ideal S8x8x128x128 .f32) (ix4 B h d e) = S h d e) (hH : ∀ (i : Fin 16) (c : Fin 1024),
    (V (Proc.devRef .tc main_v18_12) : FVec Ideal S8x16x1024 .f32) (ix3 B i c) = H i c) (r : Fin 128) (c : Fin 1024) :
    (Value.res_main_while0b_v282 V : FVec Ideal S8x128x1024 .f32) (ix3 B r c) = (a.chunk B T).pre S H r c := by
  pointwise [Value.res_main_while0b_v282, Value.res_main_while0b_v80, Value.res_main_while0b_v84]
  refine congrArg₂ (· + ·) (x_at A hT B r c) (congrArg₂ (· + ·) (Finset.sum_congr (M := EReal) rfl fun k _ => ?_)
    (Finset.sum_congr (M := EReal) rfl fun k _ => ?_))
  · rw [A.ps, A.wo, p_at A hT]
    obtain ⟨g, d, rfl⟩ : ∃ (g : Fin 4) (d : Fin 256), k = ⟨256 * g + d, by omega⟩ :=
      ⟨⟨k / 256, by omega⟩, ⟨k % 256, by omega⟩, Fin.ext (by dsimp only; omega)⟩
    have hg : (⟨(256 * (g : ℕ) + d) / 256, by omega⟩ : Fin 4) = g := Fin.ext (by dsimp only; omega)
    rw [pool_at A hT B H hH, Chunk.mix]
    simp only [hg]
    rfl
  · have ho : ∀ e, (Value.res_main_while0b_v260 V : FVec Ideal S8x8x128x128 .f32) (ix4 B ⟨k / 128, by omega⟩ r e)
        = (a.chunk B T).o ⟨k / 128, by omega⟩ (S ⟨k / 128, by omega⟩) r e := fun e => o_at A hT B _ _ (hS _) r e
    refine congrArg₂ (· * ·) (congrArg₂ (· * ·) (congrArg₂ (· * ·) (congrArg₂ (· * ·) (ho _) ?_) ?_) ?_) (A.wo _ c)
    · exact congrArg Ideal.rsqrt (congrArg (fun z => Ideal.div z (Ideal.ofBits .f32 0x43000000#32) + Ideal.ofBits .f32 0x358637BD#32)
        (Finset.sum_congr (M := EReal) rfl fun e _ => congrArg₂ (· * ·) (ho e) (ho e)))
    · exact (A.rn k).trans (congrArg (fun i => a.rn (ix2 0 i)) (Fin.ext (by dsimp only; omega)))
    · exact (congrArg silu (p_at A hT B r _)).trans
        (congrArg (fun i => silu ((a.chunk B T).p r i)) (Fin.ext (by simp; omega)))

/-- The outputs after the trip. -/
theorem y_at (S : Fin 8 → HeadState) (H : PoolRows) (hS : ∀ (h : Fin 8) (d e : Fin 128),
    (V (Proc.devRef .tc main_v18_11) : FVec Ideal S8x8x128x128 .f32) (ix4 B h d e) = S h d e) (hH : ∀ (i : Fin 16) (c : Fin 1024),
    (V (Proc.devRef .tc main_v18_12) : FVec Ideal S8x16x1024 .f32) (ix3 B i c) = H i c) (i : Fin 16) (r : Fin 128) (c : Fin 1024) :
    (Value.step_main_v18_13 V : FVec Ideal S16x8x128x1024 .f32) (ix4 i B r c)
      = if (i : ℕ) = T then (a.chunk B T).y S H r c else (V (Proc.devRef .tc main_v18_13) : FVec Ideal S16x8x128x1024 .f32) (ix4 i B r c) := by
  refine (update_rows T hT _ _ _ (ctr_at A hT) (by decide) i B r c).trans ?_
  refine congrArg (fun z => if (i : ℕ) = T then z else _) ?_
  have hp : ∀ k, (Value.res_main_while0b_v282 V : FVec Ideal S8x128x1024 .f32) (ix3 B r k) = (a.chunk B T).pre S H r k :=
    fun k => pre_at A hT B S H hS hH r k
  pointwise
  refine congrArg₂ (· * ·) (congrArg₂ (· * ·) (hp c) ?_) (A.fn c)
  exact congrArg Ideal.rsqrt (congrArg (fun z => Ideal.div z (Ideal.ofBits .f32 0x44800000#32) + Ideal.ofBits .f32 0x358637BD#32)
    (Finset.sum_congr (M := EReal) rfl fun e _ => congrArg₂ (· * ·) (hp e) (hp e)))

end Cert.ReferenceIdeal
-- ==== Proof.RefEntry.lean ====
module

public import proofs.«01_k».proof.Proof.Gen.ReferenceIdeal.Run
public import proofs.«01_k».proof.Proof.RefStep
public import Idealize.ShloMosaic.Lib.BitcastConvert

/-! What the reference's loop starts from. -/

@[expose] public section

set_option maxRecDepth 16384

noncomputable section

namespace Cert.ReferenceIdeal

open Idealize.ShloMosaic Idealize.ShloMosaic.TcCoe Idealize.ShloMosaic.Tactic Idealize.ShloMosaic.StableHlo Idealize.SL Idealize.SL.Sem

variable (m : (ℓ : Loc nD τ sig) → Buf (Elt Ideal) ℓ) (c : Dev nD)

/-- The argument arrays. -/
def inputs : Inputs where
  x := m ((c : Thread nD τ).loc main_arg0)
  cos := m ((c : Thread nD τ).loc main_arg1)
  sin := m ((c : Thread nD τ).loc main_arg2)
  smeta := m ((c : Thread nD τ).loc main_arg3)
  umeta := m ((c : Thread nD τ).loc main_arg4)
  nw := m ((c : Thread nD τ).loc main_arg5)
  ps := m ((c : Thread nD τ).loc main_arg6)
  rn := m ((c : Thread nD τ).loc main_arg7)
  fn := m ((c : Thread nD τ).loc main_arg8)
  win := m ((c : Thread nD τ).loc main_arg9)
  wu := m ((c : Thread nD τ).loc main_arg10)
  wout := m ((c : Thread nD τ).loc main_arg11)
  qkv := m ((c : Thread nD τ).loc main_arg12)
  st := m ((c : Thread nD τ).loc main_arg13)

/-- The rows, chunk by chunk. -/
theorem entry_0 : entryContents Value.preI m c (Proc.devRef .tc main_v18_0) = transpose S16x8x128x1024 [1, 0, 2, 3] (shapeCast S8x16x128x1024 (inputs m c).x Gen.shapeCasts_S8x2048x1024_S8x16x128x1024)
      Gen.transposes_S8x16x128x1024_S16x8x128x1024_1_0_2_3 := by
  simp only [entryContents, afterL_cons, afterL_nil]
  after_reads_simp
  rfl

/-- The cosines, chunk by chunk. -/
theorem entry_1 : entryContents Value.preI m c (Proc.devRef .tc main_v18_1) = shapeCast S16x128x64 (inputs m c).cos Gen.shapeCasts_S2048x64_S16x128x64 := by
  simp only [entryContents, afterL_cons, afterL_nil]
  after_reads_simp
  rfl

/-- The sines, chunk by chunk. -/
theorem entry_2 : entryContents Value.preI m c (Proc.devRef .tc main_v18_2) = shapeCast S16x128x64 (inputs m c).sin Gen.shapeCasts_S2048x64_S16x128x64 := by
  simp only [entryContents, afterL_cons, afterL_nil]
  after_reads_simp
  rfl

/-- The first norm's weights. -/
theorem entry_3 : entryContents Value.preI m c (Proc.devRef .tc main_v18_3) = (inputs m c).nw := by
  simp only [entryContents, afterL_cons, afterL_nil]
  after_reads_simp
  rfl

/-- The unpacked weights into the projections. -/
theorem entry_4 : entryContents Value.preI m c (Proc.devRef .tc main_v18_4) = (extf .f32 (shapeCast S1024x6144 (transpose S512x2x6144 [0, 2, 1] (bitcastToFloat (F := Ideal) .bf16
      (Host.bitcastConvertNarrow S512x6144x2 16 (inputs m c).win Gen.splits_S512x6144_w32_S512x6144x2_w16))
      Gen.transposes_S512x6144x2_S512x2x6144_0_2_1) Gen.shapeCasts_S512x2x6144_S1024x6144) Gen.bitsLt_bf16_f32 : FVec Ideal S1024x6144 .f32) := by
  simp only [entryContents, afterL_cons, afterL_nil]
  after_reads_simp
  rfl

/-- The pool's scales. -/
theorem entry_5 : entryContents Value.preI m c (Proc.devRef .tc main_v18_5) = (inputs m c).ps := by
  simp only [entryContents, afterL_cons, afterL_nil]
  after_reads_simp
  rfl

/-- The decays' logarithms. -/
theorem entry_6 : entryContents Value.preI m c (Proc.devRef .tc main_v18_6) = (Host.log (F := Ideal) (fun i => FloatOps.ofBits (F := Ideal) .f32 (lit0 (S8.rowMajor i))) : FVec Ideal S8 .f32) := by
  simp only [entryContents, afterL_cons, afterL_nil]
  after_reads_simp
  rfl

/-- The heads' norm weights. -/
theorem entry_7 : entryContents Value.preI m c (Proc.devRef .tc main_v18_7) = (inputs m c).rn := by
  simp only [entryContents, afterL_cons, afterL_nil]
  after_reads_simp
  rfl

/-- The unpacked weights out of the mix. -/
theorem entry_8 : entryContents Value.preI m c (Proc.devRef .tc main_v18_8) = (extf .f32 (shapeCast S2048x1024 (transpose S1024x2x1024 [0, 2, 1] (bitcastToFloat (F := Ideal) .bf16
      (Host.bitcastConvertNarrow S1024x1024x2 16 (inputs m c).wout Gen.splits_S1024x1024_w32_S1024x1024x2_w16))
      Gen.transposes_S1024x1024x2_S1024x2x1024_0_2_1) Gen.shapeCasts_S1024x2x1024_S2048x1024) Gen.bitsLt_bf16_f32 : FVec Ideal S2048x1024 .f32) := by
  simp only [entryContents, afterL_cons, afterL_nil]
  after_reads_simp
  rfl

/-- The last norm's weights. -/
theorem entry_9 : entryContents Value.preI m c (Proc.devRef .tc main_v18_9) = (inputs m c).fn := by
  simp only [entryContents, afterL_cons, afterL_nil]
  after_reads_simp
  rfl

/-- The states. -/
theorem entry_11 : entryContents Value.preI m c (Proc.devRef .tc main_v18_11) = broadcastInDim S8x8x128x128 ![0, 1, 2, 3] Gen.bcast_S1x8x128x128_S8x8x128x128_0_1_2_3
      (broadcastInDim S1x8x128x128 ![1, 2, 3] Gen.bcast_S8x128x128_S1x8x128x128_1_2_3 (inputs m c).smeta) := by
  simp only [entryContents, afterL_cons, afterL_nil]
  after_reads_simp
  rfl

/-- The kept pool rows. -/
theorem entry_12 : entryContents Value.preI m c (Proc.devRef .tc main_v18_12) = broadcastInDim S8x16x1024 ![0, 1, 2] Gen.bcast_S1x16x1024_S8x16x1024_0_1_2
      (broadcastInDim S1x16x1024 ![1, 2] Gen.bcast_S16x1024_S1x16x1024_1_2 (inputs m c).umeta) := by
  simp only [entryContents, afterL_cons, afterL_nil]
  after_reads_simp
  rfl

end Cert.ReferenceIdeal
-- ==== Proof.RefRun.lean ====
module

public import proofs.«01_k».proof.Proof.RefEntry
public import proofs.«01_k».proof.Proof.Consts

/-! The reference's loop, and its results, element by element. -/

@[expose] public section

set_option maxRecDepth 16384

noncomputable section

namespace Cert.ReferenceIdeal

open Idealize.ShloMosaic Idealize.ShloMosaic.TcCoe Idealize.ShloMosaic.Tactic Idealize.ShloMosaic.StableHlo Idealize.SL Idealize.SL.Sem

variable (m : (ℓ : Loc nD τ sig) → Buf (Elt Ideal) ℓ) (c : Dev nD)

/-- The weights read out of the words. -/
theorem win_half (k : Fin 1024) (j : Fin 6144) :
    (entryContents Value.preI m c (Proc.devRef .tc main_v18_4) : FVec Ideal S1024x6144 .f32) (ix2 k j)
      = half ((inputs m c).win (ix2 ⟨k / 2, by omega⟩ j)) k := by
  rw [entry_4]
  pointwise
  exact congrArg (fun q => half ((inputs m c).win q) k) (by funext a; fin_cases a <;> rfl)

/-- The weights read out of the words. -/
theorem wout_half (k : Fin 2048) (j : Fin 1024) :
    (entryContents Value.preI m c (Proc.devRef .tc main_v18_8) : FVec Ideal S2048x1024 .f32) (ix2 k j)
      = half ((inputs m c).wout (ix2 ⟨k / 2, by omega⟩ j)) k := by
  rw [entry_8]
  pointwise
  exact congrArg (fun q => half ((inputs m c).wout q) k) (by funext a; fin_cases a <;> rfl)

/-- The decays' logarithms. -/
theorem lg_entry (h : Fin 8) :
    (entryContents Value.preI m c (Proc.devRef .tc main_v18_6) : FVec Ideal S8 .f32) (ix1 h) = lgE h := by
  rw [entry_6]
  refine Eq.trans ?_ (Consts.log_gamma h)
  refine congrArg Ideal.log (congrArg (Ideal.ofBits .f32) ?_)
  fin_cases h <;> rfl

/-- The loop's entry. -/
theorem fixed_entry : Fixed (inputs m c) 0 (entryContents Value.preI m c) where
  x i B r k := by
    rw [entry_0]
    pointwise
    exact congrArg (fun q => (inputs m c).x (ix3 B q k)) (Fin.ext (by dsimp only; omega))
  cos i r d := by
    rw [entry_1]
    pointwise
    exact congrArg (fun q => (inputs m c).cos (ix2 q d)) (Fin.ext (by dsimp only; omega))
  sin i r d := by
    rw [entry_2]
    pointwise
    exact congrArg (fun q => (inputs m c).sin (ix2 q d)) (Fin.ext (by dsimp only; omega))
  nw k := by rw [entry_3]
  w k j := win_half m c k j
  ps k := by rw [entry_5]
  lg h := lg_entry m c h
  rn k := by rw [entry_7]
  wo k j := wout_half m c k j
  fn k := by rw [entry_9]
  ctr := Value.ctr_entry m c

/-- What a trip leaves unchanged, and its count. -/
theorem Fixed.step {a : Inputs} {T : ℕ} {V : Valuation τ sig (Elt Ideal)} (A : Fixed a T V) : Fixed a (T + 1) (Value.STEP V) where
  x i B r k := by rw [Value.STEP_main_v18_0]; exact A.x i B r k
  cos i r d := by rw [Value.STEP_main_v18_1]; exact A.cos i r d
  sin i r d := by rw [Value.STEP_main_v18_2]; exact A.sin i r d
  nw k := by rw [Value.STEP_main_v18_3]; exact A.nw k
  w k j := by rw [Value.STEP_main_v18_4]; exact A.w k j
  ps k := by rw [Value.STEP_main_v18_5]; exact A.ps k
  lg h := by rw [Value.STEP_main_v18_6]; exact A.lg h
  rn k := by rw [Value.STEP_main_v18_7]; exact A.rn k
  wo k j := by rw [Value.STEP_main_v18_8]; exact A.wo k j
  fn k := by rw [Value.STEP_main_v18_9]; exact A.fn k
  ctr := by
    rw [Value.STEP_main_v18_10]
    unfold Value.step_main_v18_10
    rw [id_eq]
    funext i
    refine (congrArg (· + 1#32) (congrFun A.ctr i)).trans ?_
    exact (BitVec.ofNat_add T 1).symm

/-- The carried arrays before trip `T`. -/
structure Loop (a : Inputs) (T : ℕ) (V : Valuation τ sig (Elt Ideal)) : Prop where
  fixed : Fixed a T V
  st : ∀ (B h : Fin 8) (d e : Fin 128), (V (Proc.devRef .tc main_v18_11) : FVec Ideal S8x8x128x128 .f32) (ix4 B h d e) = a.state B T h d e
  hist : ∀ (B : Fin 8) (i : Fin 16) (k : Fin 1024), (V (Proc.devRef .tc main_v18_12) : FVec Ideal S8x16x1024 .f32) (ix3 B i k) = a.rows B T i k
  ys : ∀ (i : Fin 16) (B : Fin 8) (r : Fin 128) (k : Fin 1024), (i : ℕ) < T →
    (V (Proc.devRef .tc main_v18_13) : FVec Ideal S16x8x128x1024 .f32) (ix4 i B r k) = a.out B i r k

/-- The loop's entry. -/
theorem loop_entry : Loop (inputs m c) 0 (entryContents Value.preI m c) where
  fixed := fixed_entry m c
  st B h d e := by
    rw [entry_11]
    pointwise
    rfl
  hist B i k := by
    rw [entry_12]
    pointwise
    rfl
  ys i B r k h := absurd h (Nat.not_lt_zero _)

/-- A trip. -/
theorem Loop.step {a : Inputs} {T : ℕ} {V : Valuation τ sig (Elt Ideal)} (L : Loop a T V) (hT : T < 16) : Loop a (T + 1) (Value.STEP V) where
  fixed := L.fixed.step
  st B h d e := by
    rw [Value.STEP_main_v18_11]
    exact s1_at L.fixed hT B h (a.state B T h) (L.st B h) d e
  hist B i k := by
    rw [Value.STEP_main_v18_12]
    exact keep_at L.fixed hT B (a.rows B T) (L.hist B) i k
  ys i B r k h := by
    rw [Value.STEP_main_v18_13]
    refine (y_at L.fixed hT B (a.state B T) (a.rows B T) (L.st B) (L.hist B) i r k).trans ?_
    by_cases hi : (i : ℕ) = T
    · rw [if_pos hi, hi]
      rfl
    · rw [if_neg hi]
      exact L.ys i B r k (by omega)

/-- Before trip `T`. -/
theorem loop_at : ∀ T : ℕ, T ≤ 16 → Loop (inputs m c) T (Value.STEP^[T] (entryContents Value.preI m c))
  | 0, _ => loop_entry m c
  | T + 1, h => by
    rw [Function.iterate_succ_apply']
    exact (loop_at T (by omega)).step (by omega)

/-- The outputs. -/
theorem y_result (B : Fin 8) (n : Fin 2048) (k : Fin 1024) :
    (Value.out_main_v20 (Value.STEP^[16] (entryContents Value.preI m c)) : FVec Ideal S8x2048x1024 .f32) (ix3 B n k)
      = (inputs m c).out B (n / 128) ⟨n % 128, by omega⟩ k := by
  unfold Value.out_main_v20
  pointwise
  exact (loop_at m c 16 le_rfl).ys ⟨n / 128, by omega⟩ B ⟨n % 128, by omega⟩ k (by dsimp only; omega)

/-- The last states. -/
theorem state_result (B h : Fin 8) (d e : Fin 128) :
    ((Value.STEP^[16] (entryContents Value.preI m c)) (Proc.devRef .tc main_v18_11) : FVec Ideal S8x8x128x128 .f32) (ix4 B h d e)
      = (inputs m c).state B 16 h d e := (loop_at m c 16 le_rfl).st B h d e

/-- The last pool rows. -/
theorem tail_result (B : Fin 8) (i : Fin 15) (k : Fin 1024) :
    (Value.out_main_v39 (Value.STEP^[16] (entryContents Value.preI m c)) : FVec Ideal S8x15x1024 .f32) (ix3 B i k)
      = (inputs m c).tail B i k := by
  unfold Value.out_main_v39
  rw [Value.iter_main_arg0, Value.iter_main_arg5, Value.iter_main_arg10]
  pointwise
  refine Finset.sum_congr (M := EReal) rfl fun x _ => congrArg₂ (· * ·) ?_
    (congrArg (fun q => half ((inputs m c).wu q) x) (by funext a; fin_cases a <;> rfl))
  have hr : (⟨2033 + i, by omega⟩ : Fin 2048) = ⟨128 * (15 % 16) + (113 + i), by omega⟩ := Fin.ext (by dsimp only; omega)
  exact congrArg (fun q : Fin 2048 => (inputs m c).x (ix3 B q x)
    * inv (Ideal.ofBits .f32 0x44800000#32) (fun y : Fin 1024 => (inputs m c).x (ix3 B q y)) * (inputs m c).nw (ix2 0 x)) hr

/-- The samples' states. -/
theorem sample_result (n : Fin 128) (h : Fin 8) (d e : Fin 128) :
    (Value.out_main_v61 (Value.STEP^[16] (entryContents Value.preI m c)) : FVec Ideal S128x8x128x128 .f32) (ix4 n h d e)
      = (inputs m c).sample n h d e := by
  unfold Value.out_main_v61
  rw [Value.iter_main_arg12, Value.iter_main_arg13]
  pointwise
  refine congrArg₂ (· + ·) (congrArg (· * (inputs m c).st (ix4 n h d e)) ?_) (congrArg₂ (· * ·) ?_ ?_)
  · fin_cases h <;> rfl
  · exact congrArg (fun q => (inputs m c).qkv (ix3 _ _ q)) (Fin.ext (by dsimp only; omega))
  · exact congrArg (fun q => (inputs m c).qkv (ix3 _ _ q)) (Fin.ext (by dsimp only; omega))

end Cert.ReferenceIdeal
-- ==== Proof.Claims.lean ====
module

public import proofs.«01_k».proof.Defs
public import proofs.«01_k».proof.Proof.Gen.Kernel.Frame
public import proofs.«01_k».proof.Proof.Final
public import proofs.«01_k».proof.Proof.RefRun

/-! The claims: the frames, the named constants, and the results' equality. -/

@[expose] public section

set_option maxRecDepth 16384

noncomputable section

namespace Cert.Proof

open Idealize.ShloMosaic Idealize.ShloMosaic.TcCoe Idealize.SL.Sem

/-- The kernel's frame. -/
theorem frame_p : Cert.quiescent_Kernel := fun m ρ _ => Cert.Kernel.Gen.frame m ρ

/-- The idealized kernel's frame. -/
theorem frame_pi : Cert.quiescent_KernelIdeal := fun m ρ _ => Cert.KernelIdeal.Gen.frame m ρ

/-- The idealized reference's frame. -/
theorem frame_ri : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The named constants: the decays' logarithms and the chunk's powers of the first seven. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

/-- The results' equality: both programs compute the sequence formulas of arguments that agree. -/
theorem algebraic : Cert.algebraic_KernelIdeal_ReferenceIdeal := by
  intro m ρ m' ρ' _ hagree
  have hin : ∀ c : Dev Cert.KernelIdeal.nD, Cert.ReferenceIdeal.inputs m' c = Cert.KernelIdeal.inputs m c := by
    intro c
    obtain ⟨h0, h1, h2, h3, h4, h5, h6, h7, h8, h9, h10, h11, h12, h13⟩ := hagree c
    unfold Cert.ReferenceIdeal.inputs Cert.KernelIdeal.inputs
    rw [Inputs.mk.injEq]
    exact ⟨h0, h1, h2, h3, h4, h5, h6, h7, h8, h9, h10, h11, h12, h13⟩
  refine ⟨Cert.KernelIdeal.Value.G14 m, Cert.KernelIdeal.Value.G15 m, Cert.KernelIdeal.Value.G16 m, Cert.KernelIdeal.Value.G17 m, ?_, ?_⟩
  · exact (θ_run Cert.KernelIdeal.defs _ _).mono
      (fun r h c => ⟨(h c).1, (h c).2.1, (h c).2.2.1, (h c).2.2.2.1, (h c).2.2.2.2.2⟩) (Cert.KernelIdeal.Value.run (F := Ideal) m ρ)
  · refine (θ_run Cert.ReferenceIdeal.defs _ _).mono
      (fun r h c => ⟨(h c).1.trans ?_, (h c).2.1.trans ?_, (h c).2.2.1.trans ?_, (h c).2.2.2.1.trans ?_, (h c).2.2.2.2⟩)
      (Cert.ReferenceIdeal.Value.run (F := Ideal) m' ρ')
    · funext j
      rw [eq_ix3 j]
      exact (Cert.ReferenceIdeal.y_result m' c _ _ _).trans ((congrArg (fun a : Inputs => a.out _ _ _ _) (hin c)).trans
        (Cert.KernelIdeal.G14_at m c _ _ _).symm)
    · funext j
      rw [eq_ix4 j]
      exact (Cert.ReferenceIdeal.state_result m' c _ _ _ _).trans ((congrArg (fun a : Inputs => a.state _ 16 _ _ _) (hin c)).trans
        (Cert.KernelIdeal.G15_at m c _ _ _ _).symm)
    · funext j
      rw [eq_ix3 j]
      exact (Cert.ReferenceIdeal.tail_result m' c _ _ _).trans ((congrArg (fun a : Inputs => a.tail _ _ _) (hin c)).trans
        (Cert.KernelIdeal.G16_at m c _ _ _).symm)
    · funext j
      rw [eq_ix4 j]
      exact (Cert.ReferenceIdeal.sample_result m' c _ _ _ _).trans ((congrArg (fun a : Inputs => a.sample _ _ _ _) (hin c)).trans
        (Cert.KernelIdeal.G17_at m c _ _ _ _).symm)

end Cert.Proof
-- ==== Proof.lean ====
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, frame_p, frame_pi, frame_ri, preserves, algebraic⟩

end Cert.Proof

end
